-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_cosines [hPre_cosines : Cert.Pre_cosines.Facts] (m : (ℓ : Loc Cert.KernelIdeal.nD Cert.KernelIdeal.τ Cert.KernelIdeal.sig) → Buf (Elt Ideal) ℓ) : Prop :=
  ∀ c : Dev Cert.KernelIdeal.nD,
    (Cert.Pre_cosines.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cosines [hPre_cosines : Cert.Pre_cosines.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cosines.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_cosines [hKernelIdeal : Cert.KernelIdeal.Facts] [hPre_cosines : Cert.Pre_cosines.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_cosines m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_cosines [hReferenceIdeal : Cert.ReferenceIdeal.Facts] [hPre_cosines : Cert.Pre_cosines.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cosines m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "cos_m" .f32 0x3F60A940#32 ((Real.sqrt (54194568723295 / 70368744177664) : ℝ) : EReal)

def algebraic_KernelIdeal_ReferenceIdeal_pre_cosines [hKernelIdeal : Cert.KernelIdeal.Facts] [hReferenceIdeal : Cert.ReferenceIdeal.Facts] [hPre_cosines : Cert.Pre_cosines.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_cosines m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_cosines : Cert.Pre_cosines.Facts),
    quiescent_Kernel (hKernel := hKernel)
    ∧ quiescent_KernelIdeal (hKernelIdeal := hKernelIdeal)
    ∧ quiescent_KernelIdeal_pre_cosines (hKernelIdeal := hKernelIdeal) (hPre_cosines := hPre_cosines)
    ∧ quiescent_ReferenceIdeal (hReferenceIdeal := hReferenceIdeal)
    ∧ quiescent_ReferenceIdeal_pre_cosines (hReferenceIdeal := hReferenceIdeal) (hPre_cosines := hPre_cosines)
    ∧ preserves_Kernel_KernelIdeal
    ∧ algebraic_KernelIdeal_ReferenceIdeal_pre_cosines (hKernelIdeal := hKernelIdeal) (hReferenceIdeal := hReferenceIdeal) (hPre_cosines := hPre_cosines)
-- ==== Pre_cosines.lean ====
abbrev S1024x100000 : Shape := ⟨2, ![1024, 100000]⟩
abbrev S1024 : Shape := ⟨1, ![1024]⟩
abbrev S1024x128 : Shape := ⟨2, ![1024, 128]⟩
abbrev S_ : Shape := ⟨0, ![]⟩

class Facts : Prop where
  bcast_S_S1024x100000 : S_.BroadcastsInDim S1024x100000 (![] : Fin 0 → Fin S1024x100000.rank)
  reducesTo_S1024x100000_S_d0_1 : S1024x100000.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x100000 .f32) (main_arg1 : IVec S1024 32) (main_arg2 : FVec F S1024x128 .f32) : IVec S_ 1 :=
  let main_cst : FVec F S_ .f32 := constant S_ .f32 0xBF800000#32
  let main_v0 : FVec F S1024x100000 .f32 := broadcastInDim S1024x100000 ![] bcast_S_S1024x100000 main_cst
  let main_v1 : IVec S1024x100000 1 := cmpf .oge main_arg0 main_v0
  let main_cst_0 : FVec F S_ .f32 := constant S_ .f32 0x3F800000#32
  let main_v2 : FVec F S1024x100000 .f32 := broadcastInDim S1024x100000 ![] bcast_S_S1024x100000 main_cst_0
  let main_v3 : IVec S1024x100000 1 := cmpf .ole main_arg0 main_v2
  let main_v4 : IVec S1024x100000 1 := andi main_v1 main_v3
  let main_c : IVec S_ 1 := constantI S_ 1 1#1
  let main_v5 : IVec S_ 1 := (fun x v => Host.reduce IntOp.andi x v reducesTo_S1024x100000_S_d0_1 h_S_) main_v4 main_c
  let main_c_1 : IVec S_ 32 := constantI S_ 32 4294967295#32
  let main_v6 : IVec S1024 32 := broadcastInDim S1024 ![] bcast_S_S1024 main_c_1
  let main_v7 : IVec S1024 1 := cmpi .sge main_arg1 main_v6
  let main_c_2 : IVec S_ 1 := constantI S_ 1 1#1
  let main_v8 : IVec S_ 1 := (fun x v => Host.reduce IntOp.andi x v reducesTo_S1024_S_d0 h_S_) main_v7 main_c_2
  let main_v9 : IVec S_ 1 := andi main_v5 main_v8
  main_v9
-- ==== Kernel.lean ====
abbrev S1024x100000 : Shape := ⟨2, ![1024, 100000]⟩
abbrev S1024 : Shape := ⟨1, ![1024]⟩
abbrev S1024x128 : Shape := ⟨2, ![1024, 128]⟩
abbrev S8x3072 : Shape := ⟨2, ![8, 3072]⟩
abbrev S8x1664 : Shape := ⟨2, ![8, 1664]⟩
abbrev S8x32 : Shape := ⟨2, ![8, 32]⟩
abbrev S32 : Shape := ⟨1, ![32]⟩
abbrev S_ : Shape := ⟨0, ![]⟩
abbrev S16 : Shape := ⟨1, ![16]⟩
abbrev S1x16 : Shape := ⟨2, ![1, 16]⟩

abbrev nBuf : Table → Nat
  | .hbm => 4
  | .local .scVector .vmem => 7
  | _ => 0

abbrev bufTy : (tb : Table) → Fin (nBuf tb) → BufTy
  | .hbm, ⟨0, _⟩ => ⟨S1024x100000, .f32⟩
  | .hbm, ⟨1, _⟩ => ⟨S1024, .i32⟩
  | .hbm, ⟨2, _⟩ => ⟨S1024x128, .f32⟩
  | .hbm, ⟨3, _⟩ => ⟨S1024x100000, .f32⟩
  | .local .scVector .vmem, ⟨0, _⟩ => ⟨S8x3072, .f32⟩
  | .local .scVector .vmem, ⟨1, _⟩ => ⟨S8x3072, .f32⟩
  | .local .scVector .vmem, ⟨2, _⟩ => ⟨S8x3072, .f32⟩
  | .local .scVector .vmem, ⟨3, _⟩ => ⟨S8x3072, .f32⟩
  | .local .scVector .vmem, ⟨4, _⟩ => ⟨S8x1664, .f32⟩
  | .local .scVector .vmem, ⟨5, _⟩ => ⟨S8x32, .f32⟩
  | .local .scVector .vmem, ⟨6, _⟩ => ⟨S32, .i32⟩
  | _, _ => ⟨S1024x100000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg0_scv : Ref sig .scVector := ⟨.hbm, 0, rfl⟩
abbrev main_arg1_scv : Ref sig .scVector := ⟨.hbm, 1, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  let v8 : BitVec 32 := Scalar.addi v2 c0_i32
  let c0_i32_0 : BitVec 32 := 0#32
  ![v8.toNat, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_2 : BitVec 32 := 0#32
  let v11 : BitVec 32 := Scalar.addi v2 c0_i32_2
  let c3072_i32 : BitVec 32 := 3072#32
  ![v11.toNat, 3072]
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_4 : BitVec 32 := 0#32
  let v14 : BitVec 32 := Scalar.addi v2 c0_i32_4
  let c6144_i32 : BitVec 32 := 6144#32
  ![v14.toNat, 6144]
@[reducible] def k0_t1_loop : Scf.Loop 32 :=
  let c0_i32_7 : BitVec 32 := 0#32
  let c32_i32_8 : BitVec 32 := 32#32
  let v17 : BitVec 32 := Scalar.addi c0_i32_7 c32_i32_8
  let c1_i32 : BitVec 32 := 1#32
  ⟨c0_i32_7, v17, c1_i32⟩
def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_7 : BitVec 32 := 0#32
  let c1_i32 : BitVec 32 := 1#32
  let arg20 : BitVec 32 := Scf.iv c0_i32_7 c1_i32 k0_t1
  let c4_i32_21 : BitVec 32 := 4#32
  let v31 : BitVec 32 := Scalar.muli arg20 c4_i32_21
  let c0_i32_22 : BitVec 32 := 0#32
  let v32 : BitVec 32 := Scalar.addi v31 c0_i32_22
  let c5_i32 : BitVec 32 := 5#32
  let v33 : BitVec 32 := Scalar.shrsi v32 c5_i32
  let c8_i32_23 : BitVec 32 := 8#32
  let v34 : BitVec 32 := Scalar.muli v33 c8_i32_23
  let v35 : BitVec 32 := Scalar.addi v2 v34
  let c31_i32 : BitVec 32 := 31#32
  let v36 : BitVec 32 := Scalar.andi v32 c31_i32
  let c3072_i32_24 : BitVec 32 := 3072#32
  let v37 : BitVec 32 := Scalar.muli v36 c3072_i32_24
  ![v35.toNat, v37.toNat]

def k0_chk1 (v45 : IVec S16 32) : Prop :=
  (∀ a x, ((![v45] : Fin 1 → IVec S16 32) a x).toNat < S32.size a)
theorem k0_idx1_inb : ∀ (v45 : IVec S16 32) (k0_hw1 : k0_chk1 v45), ∀ a x, ((![v45] : Fin 1 → IVec S16 32) a x).toNat < S32.size a := fun v45 k0_hw1 => k0_hw1

def k0_chk2 (v5 : IVec S16 32) (v56 : IVec S16 32) : Prop :=
  (∀ a x, ((![v5, v56] : Fin 2 → IVec S16 32) a x).toNat < S8x3072.size a) ∧
  (∀ a x, ((![v5, v56] : Fin 2 → IVec S16 32) a x).toNat < S8x3072.size a)
theorem k0_idx2_inb : ∀ (v5 : IVec S16 32) (v56 : IVec S16 32) (k0_hw2 : k0_chk2 v5 v56), ∀ a x, ((![v5, v56] : Fin 2 → IVec S16 32) a x).toNat < S8x3072.size a := fun v5 v56 k0_hw2 => k0_hw2.1
theorem k0_idx3_inb : ∀ (v5 : IVec S16 32) (v56 : IVec S16 32) (k0_hw2 : k0_chk2 v5 v56), ∀ a x, ((![v5, v56] : Fin 2 → IVec S16 32) a x).toNat < S8x3072.size a := fun v5 v56 k0_hw2 => k0_hw2.2
@[reducible] def k0_t2_loop : Scf.Loop 32 :=
  let c0_i32_35 : BitVec 32 := 0#32
  let c192_i32 : BitVec 32 := 192#32
  let v69 : BitVec 32 := Scalar.addi c0_i32_35 c192_i32
  let c1_i32_36 : BitVec 32 := 1#32
  ⟨c0_i32_35, v69, c1_i32_36⟩
def k0_off6 (k0_t2 : Fin k0_t2_loop.trips) : Fin 2 → Nat :=
  let c0_i32_245 : BitVec 32 := 0#32
  let v266 : Index := Scalar.indexCast c0_i32_245
  let c0_i32_244 : BitVec 32 := 0#32
  let c0_i32_35 : BitVec 32 := 0#32
  let c1_i32_36 : BitVec 32 := 1#32
  let arg21 : BitVec 32 := Scf.iv c0_i32_35 c1_i32_36 k0_t2
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![0, v267.toNat]
@[reducible] def k0_t3_loop : Scf.Loop 32 :=
  let c0_i32_38 : BitVec 32 := 0#32
  let c192_i32_39 : BitVec 32 := 192#32
  let v70 : BitVec 32 := Scalar.addi c0_i32_38 c192_i32_39
  let c1_i32_40 : BitVec 32 := 1#32
  ⟨c0_i32_38, v70, c1_i32_40⟩
def k0_off7 (k0_t3 : Fin k0_t3_loop.trips) : Fin 2 → Nat :=
  let c1_i32_245 : BitVec 32 := 1#32
  let v266 : Index := Scalar.indexCast c1_i32_245
  let c0_i32_244 : BitVec 32 := 0#32
  let c0_i32_38 : BitVec 32 := 0#32
  let c1_i32_40 : BitVec 32 := 1#32
  let arg21 : BitVec 32 := Scf.iv c0_i32_38 c1_i32_40 k0_t3
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![1, v267.toNat]
@[reducible] def k0_t4_loop : Scf.Loop 32 :=
  let c0_i32_42 : BitVec 32 := 0#32
  let c192_i32_43 : BitVec 32 := 192#32
  let v71 : BitVec 32 := Scalar.addi c0_i32_42 c192_i32_43
  let c1_i32_44 : BitVec 32 := 1#32
  ⟨c0_i32_42, v71, c1_i32_44⟩
def k0_off8 (k0_t4 : Fin k0_t4_loop.trips) : Fin 2 → Nat :=
  let c2_i32_245 : BitVec 32 := 2#32
  let v266 : Index := Scalar.indexCast c2_i32_245
  let c0_i32_244 : BitVec 32 := 0#32
  let c0_i32_42 : BitVec 32 := 0#32
  let c1_i32_44 : BitVec 32 := 1#32
  let arg21 : BitVec 32 := Scf.iv c0_i32_42 c1_i32_44 k0_t4
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![2, v267.toNat]
@[reducible] def k0_t5_loop : Scf.Loop 32 :=
  let c0_i32_46 : BitVec 32 := 0#32
  let c192_i32_47 : BitVec 32 := 192#32
  let v72 : BitVec 32 := Scalar.addi c0_i32_46 c192_i32_47
  let c1_i32_48 : BitVec 32 := 1#32
  ⟨c0_i32_46, v72, c1_i32_48⟩
def k0_off9 (k0_t5 : Fin k0_t5_loop.trips) : Fin 2 → Nat :=
  let c3_i32_245 : BitVec 32 := 3#32
  let v266 : Index := Scalar.indexCast c3_i32_245
  let c0_i32_244 : BitVec 32 := 0#32
  let c0_i32_46 : BitVec 32 := 0#32
  let c1_i32_48 : BitVec 32 := 1#32
  let arg21 : BitVec 32 := Scf.iv c0_i32_46 c1_i32_48 k0_t5
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![3, v267.toNat]
@[reducible] def k0_t6_loop : Scf.Loop 32 :=
  let c0_i32_50 : BitVec 32 := 0#32
  let c192_i32_51 : BitVec 32 := 192#32
  let v73 : BitVec 32 := Scalar.addi c0_i32_50 c192_i32_51
  let c1_i32_52 : BitVec 32 := 1#32
  ⟨c0_i32_50, v73, c1_i32_52⟩
def k0_off10 (k0_t6 : Fin k0_t6_loop.trips) : Fin 2 → Nat :=
  let c4_i32_245 : BitVec 32 := 4#32
  let v266 : Index := Scalar.indexCast c4_i32_245
  let c0_i32_244 : BitVec 32 := 0#32
  let c0_i32_50 : BitVec 32 := 0#32
  let c1_i32_52 : BitVec 32 := 1#32
  let arg21 : BitVec 32 := Scf.iv c0_i32_50 c1_i32_52 k0_t6
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![4, v267.toNat]
@[reducible] def k0_t7_loop : Scf.Loop 32 :=
  let c0_i32_54 : BitVec 32 := 0#32
  let c192_i32_55 : BitVec 32 := 192#32
  let v74 : BitVec 32 := Scalar.addi c0_i32_54 c192_i32_55
  let c1_i32_56 : BitVec 32 := 1#32
  ⟨c0_i32_54, v74, c1_i32_56⟩
def k0_off11 (k0_t7 : Fin k0_t7_loop.trips) : Fin 2 → Nat :=
  let c5_i32_245 : BitVec 32 := 5#32
  let v266 : Index := Scalar.indexCast c5_i32_245
  let c0_i32_244 : BitVec 32 := 0#32
  let c0_i32_54 : BitVec 32 := 0#32
  let c1_i32_56 : BitVec 32 := 1#32
  let arg21 : BitVec 32 := Scf.iv c0_i32_54 c1_i32_56 k0_t7
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![5, v267.toNat]
@[reducible] def k0_t8_loop : Scf.Loop 32 :=
  let c0_i32_58 : BitVec 32 := 0#32
  let c192_i32_59 : BitVec 32 := 192#32
  let v75 : BitVec 32 := Scalar.addi c0_i32_58 c192_i32_59
  let c1_i32_60 : BitVec 32 := 1#32
  ⟨c0_i32_58, v75, c1_i32_60⟩
def k0_off12 (k0_t8 : Fin k0_t8_loop.trips) : Fin 2 → Nat :=
  let c6_i32 : BitVec 32 := 6#32
  let v266 : Index := Scalar.indexCast c6_i32
  let c0_i32_244 : BitVec 32 := 0#32
  let c0_i32_58 : BitVec 32 := 0#32
  let c1_i32_60 : BitVec 32 := 1#32
  let arg21 : BitVec 32 := Scf.iv c0_i32_58 c1_i32_60 k0_t8
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![6, v267.toNat]
@[reducible] def k0_t9_loop : Scf.Loop 32 :=
  let c0_i32_62 : BitVec 32 := 0#32
  let c192_i32_63 : BitVec 32 := 192#32
  let v76 : BitVec 32 := Scalar.addi c0_i32_62 c192_i32_63
  let c1_i32_64 : BitVec 32 := 1#32
  ⟨c0_i32_62, v76, c1_i32_64⟩
def k0_off13 (k0_t9 : Fin k0_t9_loop.trips) : Fin 2 → Nat :=
  let c7_i32_245 : BitVec 32 := 7#32
  let v266 : Index := Scalar.indexCast c7_i32_245
  let c0_i32_244 : BitVec 32 := 0#32
  let c0_i32_62 : BitVec 32 := 0#32
  let c1_i32_64 : BitVec 32 := 1#32
  let arg21 : BitVec 32 := Scf.iv c0_i32_62 c1_i32_64 k0_t9
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![7, v267.toNat]
def k0_off14 (i : grid0.Coords) (k0_t1 : Fin k0_t1_loop.trips) (c0_i32_22 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_7 : BitVec 32 := 0#32
  let c1_i32 : BitVec 32 := 1#32
  let arg20 : BitVec 32 := Scf.iv c0_i32_7 c1_i32 k0_t1
  let c4_i32_21 : BitVec 32 := 4#32
  let v31 : BitVec 32 := Scalar.muli arg20 c4_i32_21
  let v32 : BitVec 32 := Scalar.addi v31 c0_i32_22
  let c5_i32_66 : BitVec 32 := 5#32
  let v77 : BitVec 32 := Scalar.shrsi v32 c5_i32_66
  let c8_i32_67 : BitVec 32 := 8#32
  let v78 : BitVec 32 := Scalar.muli v77 c8_i32_67
  let v79 : BitVec 32 := Scalar.addi v2 v78
  let c31_i32_68 : BitVec 32 := 31#32
  let v80 : BitVec 32 := Scalar.andi v32 c31_i32_68
  let c3072_i32_69 : BitVec 32 := 3072#32
  let v81 : BitVec 32 := Scalar.muli v80 c3072_i32_69
  ![v79.toNat, v81.toNat]
def k0_cond1 (k0_t1 : Fin k0_t1_loop.trips) : BitVec 1 :=
  let c0_i32_7 : BitVec 32 := 0#32
  let c1_i32 : BitVec 32 := 1#32
  let arg20 : BitVec 32 := Scf.iv c0_i32_7 c1_i32 k0_t1
  let c4_i32_21 : BitVec 32 := 4#32
  let v31 : BitVec 32 := Scalar.muli arg20 c4_i32_21
  let c0_i32_22 : BitVec 32 := 0#32
  let v32 : BitVec 32 := Scalar.addi v31 c0_i32_22
  let c4_i32_70 : BitVec 32 := 4#32
  let v84 : BitVec 32 := Scalar.addi v32 c4_i32_70
  let c1_i32_71 : BitVec 32 := 1#32
  let v85 : BitVec 32 := Scalar.subi v84 c1_i32_71
  let c128_i32 : BitVec 32 := 128#32
  let v86 : BitVec 1 := Scalar.cmpi .slt v85 c128_i32
  let v87 : BitVec 32 := Scalar.extui v86
  let c0_i32_72 : BitVec 32 := 0#32
  let v88 : BitVec 1 := Scalar.cmpi .ne v87 c0_i32_72
  v88

def k0_cond2 (k0_t1 : Fin k0_t1_loop.trips) : BitVec 1 :=
  let c0_i32_7 : BitVec 32 := 0#32
  let c1_i32 : BitVec 32 := 1#32
  let arg20 : BitVec 32 := Scf.iv c0_i32_7 c1_i32 k0_t1
  let c4_i32_21 : BitVec 32 := 4#32
  let v31 : BitVec 32 := Scalar.muli arg20 c4_i32_21
  let c0_i32_22 : BitVec 32 := 0#32
  let v32 : BitVec 32 := Scalar.addi v31 c0_i32_22
  let c1_i32_243 : BitVec 32 := 1#32
  let v263 : BitVec 1 := Scalar.cmpi .sge v32 c1_i32_243
  let v264 : BitVec 32 := Scalar.extui v263
  let c0_i32_244 : BitVec 32 := 0#32
  let v265 : BitVec 1 := Scalar.cmpi .ne v264 c0_i32_244
  v265

def k0_off15 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_7 : BitVec 32 := 0#32
  let c1_i32 : BitVec 32 := 1#32
  let arg20 : BitVec 32 := Scf.iv c0_i32_7 c1_i32 k0_t1
  let c4_i32_21 : BitVec 32 := 4#32
  let v31 : BitVec 32 := Scalar.muli arg20 c4_i32_21
  let c0_i32_22 : BitVec 32 := 0#32
  let v32 : BitVec 32 := Scalar.addi v31 c0_i32_22
  let c1_i32_251 : BitVec 32 := 1#32
  let v275 : BitVec 32 := Scalar.subi v32 c1_i32_251
  let c5_i32_252 : BitVec 32 := 5#32
  let v276 : BitVec 32 := Scalar.shrsi v275 c5_i32_252
  let c8_i32_253 : BitVec 32 := 8#32
  let v277 : BitVec 32 := Scalar.muli v276 c8_i32_253
  let v278 : BitVec 32 := Scalar.addi v2 v277
  let c31_i32_254 : BitVec 32 := 31#32
  let v279 : BitVec 32 := Scalar.andi v275 c31_i32_254
  let c3072_i32_255 : BitVec 32 := 3072#32
  let v280 : BitVec 32 := Scalar.muli v279 c3072_i32_255
  ![v278.toNat, v280.toNat]
def k0_off16 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_7 : BitVec 32 := 0#32
  let c1_i32 : BitVec 32 := 1#32
  let arg20 : BitVec 32 := Scf.iv c0_i32_7 c1_i32 k0_t1
  let c4_i32_21 : BitVec 32 := 4#32
  let v31 : BitVec 32 := Scalar.muli arg20 c4_i32_21
  let c0_i32_22 : BitVec 32 := 0#32
  let v32 : BitVec 32 := Scalar.addi v31 c0_i32_22
  let c4_i32_245 : BitVec 32 := 4#32
  let v266 : BitVec 32 := Scalar.addi v32 c4_i32_245
  let c1_i32_246 : BitVec 32 := 1#32
  let v267 : BitVec 32 := Scalar.subi v266 c1_i32_246
  let c5_i32_247 : BitVec 32 := 5#32
  let v268 : BitVec 32 := Scalar.shrsi v267 c5_i32_247
  let c8_i32_248 : BitVec 32 := 8#32
  let v269 : BitVec 32 := Scalar.muli v268 c8_i32_248
  let v270 : BitVec 32 := Scalar.addi v2 v269
  let c31_i32_249 : BitVec 32 := 31#32
  let v271 : BitVec 32 := Scalar.andi v267 c31_i32_249
  let c3072_i32_250 : BitVec 32 := 3072#32
  let v272 : BitVec 32 := Scalar.muli v271 c3072_i32_250
  ![v270.toNat, v272.toNat]

def k0_chk3 (v103 : IVec S16 32) : Prop :=
  (∀ a x, ((![v103] : Fin 1 → IVec S16 32) a x).toNat < S32.size a)
theorem k0_idx4_inb : ∀ (v103 : IVec S16 32) (k0_hw3 : k0_chk3 v103), ∀ a x, ((![v103] : Fin 1 → IVec S16 32) a x).toNat < S32.size a := fun v103 k0_hw3 => k0_hw3

def k0_chk4 (v5 : IVec S16 32) (v114 : IVec S16 32) : Prop :=
  (∀ a x, ((![v5, v114] : Fin 2 → IVec S16 32) a x).toNat < S8x3072.size a) ∧
  (∀ a x, ((![v5, v114] : Fin 2 → IVec S16 32) a x).toNat < S8x3072.size a)
theorem k0_idx5_inb : ∀ (v5 : IVec S16 32) (v114 : IVec S16 32) (k0_hw4 : k0_chk4 v5 v114), ∀ a x, ((![v5, v114] : Fin 2 → IVec S16 32) a x).toNat < S8x3072.size a := fun v5 v114 k0_hw4 => k0_hw4.1
theorem k0_idx6_inb : ∀ (v5 : IVec S16 32) (v114 : IVec S16 32) (k0_hw4 : k0_chk4 v5 v114), ∀ a x, ((![v5, v114] : Fin 2 → IVec S16 32) a x).toNat < S8x3072.size a := fun v5 v114 k0_hw4 => k0_hw4.2
@[reducible] def k0_t10_loop : Scf.Loop 32 :=
  let c0_i32_90 : BitVec 32 := 0#32
  let c192_i32_91 : BitVec 32 := 192#32
  let v127 : BitVec 32 := Scalar.addi c0_i32_90 c192_i32_91
  let c1_i32_92 : BitVec 32 := 1#32
  ⟨c0_i32_90, v127, c1_i32_92⟩
def k0_off17 (k0_t10 : Fin k0_t10_loop.trips) : Fin 2 → Nat :=
  let c0_i32_245 : BitVec 32 := 0#32
  let v266 : Index := Scalar.indexCast c0_i32_245
  let c0_i32_244 : BitVec 32 := 0#32
  let c0_i32_90 : BitVec 32 := 0#32
  let c1_i32_92 : BitVec 32 := 1#32
  let arg21 : BitVec 32 := Scf.iv c0_i32_90 c1_i32_92 k0_t10
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![0, v267.toNat]
@[reducible] def k0_t11_loop : Scf.Loop 32 :=
  let c0_i32_94 : BitVec 32 := 0#32
  let c192_i32_95 : BitVec 32 := 192#32
  let v128 : BitVec 32 := Scalar.addi c0_i32_94 c192_i32_95
  let c1_i32_96 : BitVec 32 := 1#32
  ⟨c0_i32_94, v128, c1_i32_96⟩
def k0_off18 (k0_t11 : Fin k0_t11_loop.trips) : Fin 2 → Nat :=
  let c1_i32_245 : BitVec 32 := 1#32
  let v266 : Index := Scalar.indexCast c1_i32_245
  let c0_i32_244 : BitVec 32 := 0#32
  let c0_i32_94 : BitVec 32 := 0#32
  let c1_i32_96 : BitVec 32 := 1#32
  let arg21 : BitVec 32 := Scf.iv c0_i32_94 c1_i32_96 k0_t11
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![1, v267.toNat]
@[reducible] def k0_t12_loop : Scf.Loop 32 :=
  let c0_i32_98 : BitVec 32 := 0#32
  let c192_i32_99 : BitVec 32 := 192#32
  let v129 : BitVec 32 := Scalar.addi c0_i32_98 c192_i32_99
  let c1_i32_100 : BitVec 32 := 1#32
  ⟨c0_i32_98, v129, c1_i32_100⟩
def k0_off19 (k0_t12 : Fin k0_t12_loop.trips) : Fin 2 → Nat :=
  let c2_i32_245 : BitVec 32 := 2#32
  let v266 : Index := Scalar.indexCast c2_i32_245
  let c0_i32_244 : BitVec 32 := 0#32
  let c0_i32_98 : BitVec 32 := 0#32
  let c1_i32_100 : BitVec 32 := 1#32
  let arg21 : BitVec 32 := Scf.iv c0_i32_98 c1_i32_100 k0_t12
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![2, v267.toNat]
@[reducible] def k0_t13_loop : Scf.Loop 32 :=
  let c0_i32_102 : BitVec 32 := 0#32
  let c192_i32_103 : BitVec 32 := 192#32
  let v130 : BitVec 32 := Scalar.addi c0_i32_102 c192_i32_103
  let c1_i32_104 : BitVec 32 := 1#32
  ⟨c0_i32_102, v130, c1_i32_104⟩
def k0_off20 (k0_t13 : Fin k0_t13_loop.trips) : Fin 2 → Nat :=
  let c3_i32_245 : BitVec 32 := 3#32
  let v266 : Index := Scalar.indexCast c3_i32_245
  let c0_i32_244 : BitVec 32 := 0#32
  let c0_i32_102 : BitVec 32 := 0#32
  let c1_i32_104 : BitVec 32 := 1#32
  let arg21 : BitVec 32 := Scf.iv c0_i32_102 c1_i32_104 k0_t13
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![3, v267.toNat]
@[reducible] def k0_t14_loop : Scf.Loop 32 :=
  let c0_i32_106 : BitVec 32 := 0#32
  let c192_i32_107 : BitVec 32 := 192#32
  let v131 : BitVec 32 := Scalar.addi c0_i32_106 c192_i32_107
  let c1_i32_108 : BitVec 32 := 1#32
  ⟨c0_i32_106, v131, c1_i32_108⟩
def k0_off21 (k0_t14 : Fin k0_t14_loop.trips) : Fin 2 → Nat :=
  let c4_i32_245 : BitVec 32 := 4#32
  let v266 : Index := Scalar.indexCast c4_i32_245
  let c0_i32_244 : BitVec 32 := 0#32
  let c0_i32_106 : BitVec 32 := 0#32
  let c1_i32_108 : BitVec 32 := 1#32
  let arg21 : BitVec 32 := Scf.iv c0_i32_106 c1_i32_108 k0_t14
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![4, v267.toNat]
@[reducible] def k0_t15_loop : Scf.Loop 32 :=
  let c0_i32_110 : BitVec 32 := 0#32
  let c192_i32_111 : BitVec 32 := 192#32
  let v132 : BitVec 32 := Scalar.addi c0_i32_110 c192_i32_111
  let c1_i32_112 : BitVec 32 := 1#32
  ⟨c0_i32_110, v132, c1_i32_112⟩
def k0_off22 (k0_t15 : Fin k0_t15_loop.trips) : Fin 2 → Nat :=
  let c5_i32_245 : BitVec 32 := 5#32
  let v266 : Index := Scalar.indexCast c5_i32_245
  let c0_i32_244 : BitVec 32 := 0#32
  let c0_i32_110 : BitVec 32 := 0#32
  let c1_i32_112 : BitVec 32 := 1#32
  let arg21 : BitVec 32 := Scf.iv c0_i32_110 c1_i32_112 k0_t15
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![5, v267.toNat]
@[reducible] def k0_t16_loop : Scf.Loop 32 :=
  let c0_i32_114 : BitVec 32 := 0#32
  let c192_i32_115 : BitVec 32 := 192#32
  let v133 : BitVec 32 := Scalar.addi c0_i32_114 c192_i32_115
  let c1_i32_116 : BitVec 32 := 1#32
  ⟨c0_i32_114, v133, c1_i32_116⟩
def k0_off23 (k0_t16 : Fin k0_t16_loop.trips) : Fin 2 → Nat :=
  let c6_i32 : BitVec 32 := 6#32
  let v266 : Index := Scalar.indexCast c6_i32
  let c0_i32_244 : BitVec 32 := 0#32
  let c0_i32_114 : BitVec 32 := 0#32
  let c1_i32_116 : BitVec 32 := 1#32
  let arg21 : BitVec 32 := Scf.iv c0_i32_114 c1_i32_116 k0_t16
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![6, v267.toNat]
@[reducible] def k0_t17_loop : Scf.Loop 32 :=
  let c0_i32_118 : BitVec 32 := 0#32
  let c192_i32_119 : BitVec 32 := 192#32
  let v134 : BitVec 32 := Scalar.addi c0_i32_118 c192_i32_119
  let c1_i32_120 : BitVec 32 := 1#32
  ⟨c0_i32_118, v134, c1_i32_120⟩
def k0_off24 (k0_t17 : Fin k0_t17_loop.trips) : Fin 2 → Nat :=
  let c7_i32_245 : BitVec 32 := 7#32
  let v266 : Index := Scalar.indexCast c7_i32_245
  let c0_i32_244 : BitVec 32 := 0#32
  let c0_i32_118 : BitVec 32 := 0#32
  let c1_i32_120 : BitVec 32 := 1#32
  let arg21 : BitVec 32 := Scf.iv c0_i32_118 c1_i32_120 k0_t17
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![7, v267.toNat]
def k0_off25 (i : grid0.Coords) (k0_t1 : Fin k0_t1_loop.trips) (c1_i32_74 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_7 : BitVec 32 := 0#32
  let c1_i32 : BitVec 32 := 1#32
  let arg20 : BitVec 32 := Scf.iv c0_i32_7 c1_i32 k0_t1
  let c4_i32_73 : BitVec 32 := 4#32
  let v89 : BitVec 32 := Scalar.muli arg20 c4_i32_73
  let v90 : BitVec 32 := Scalar.addi v89 c1_i32_74
  let c5_i32_122 : BitVec 32 := 5#32
  let v135 : BitVec 32 := Scalar.shrsi v90 c5_i32_122
  let c8_i32_123 : BitVec 32 := 8#32
  let v136 : BitVec 32 := Scalar.muli v135 c8_i32_123
  let v137 : BitVec 32 := Scalar.addi v2 v136
  let c31_i32_124 : BitVec 32 := 31#32
  let v138 : BitVec 32 := Scalar.andi v90 c31_i32_124
  let c3072_i32_125 : BitVec 32 := 3072#32
  let v139 : BitVec 32 := Scalar.muli v138 c3072_i32_125
  ![v137.toNat, v139.toNat]
def k0_cond3 (k0_t1 : Fin k0_t1_loop.trips) : BitVec 1 :=
  let c0_i32_7 : BitVec 32 := 0#32
  let c1_i32 : BitVec 32 := 1#32
  let arg20 : BitVec 32 := Scf.iv c0_i32_7 c1_i32 k0_t1
  let c4_i32_73 : BitVec 32 := 4#32
  let v89 : BitVec 32 := Scalar.muli arg20 c4_i32_73
  let c1_i32_74 : BitVec 32 := 1#32
  let v90 : BitVec 32 := Scalar.addi v89 c1_i32_74
  let c4_i32_126 : BitVec 32 := 4#32
  let v142 : BitVec 32 := Scalar.addi v90 c4_i32_126
  let c1_i32_127 : BitVec 32 := 1#32
  let v143 : BitVec 32 := Scalar.subi v142 c1_i32_127
  let c128_i32_128 : BitVec 32 := 128#32
  let v144 : BitVec 1 := Scalar.cmpi .slt v143 c128_i32_128
  let v145 : BitVec 32 := Scalar.extui v144
  let c0_i32_129 : BitVec 32 := 0#32
  let v146 : BitVec 1 := Scalar.cmpi .ne v145 c0_i32_129
  v146

def k0_cond4 (k0_t1 : Fin k0_t1_loop.trips) : BitVec 1 :=
  let c0_i32_7 : BitVec 32 := 0#32
  let c1_i32 : BitVec 32 := 1#32
  let arg20 : BitVec 32 := Scf.iv c0_i32_7 c1_i32 k0_t1
  let c4_i32_73 : BitVec 32 := 4#32
  let v89 : BitVec 32 := Scalar.muli arg20 c4_i32_73
  let c1_i32_74 : BitVec 32 := 1#32
  let v90 : BitVec 32 := Scalar.addi v89 c1_i32_74
  let c1_i32_243 : BitVec 32 := 1#32
  let v263 : BitVec 1 := Scalar.cmpi .sge v90 c1_i32_243
  let v264 : BitVec 32 := Scalar.extui v263
  let c0_i32_244 : BitVec 32 := 0#32
  let v265 : BitVec 1 := Scalar.cmpi .ne v264 c0_i32_244
  v265

def k0_off26 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_7 : BitVec 32 := 0#32
  let c1_i32 : BitVec 32 := 1#32
  let arg20 : BitVec 32 := Scf.iv c0_i32_7 c1_i32 k0_t1
  let c4_i32_73 : BitVec 32 := 4#32
  let v89 : BitVec 32 := Scalar.muli arg20 c4_i32_73
  let c1_i32_74 : BitVec 32 := 1#32
  let v90 : BitVec 32 := Scalar.addi v89 c1_i32_74
  let c1_i32_251 : BitVec 32 := 1#32
  let v275 : BitVec 32 := Scalar.subi v90 c1_i32_251
  let c5_i32_252 : BitVec 32 := 5#32
  let v276 : BitVec 32 := Scalar.shrsi v275 c5_i32_252
  let c8_i32_253 : BitVec 32 := 8#32
  let v277 : BitVec 32 := Scalar.muli v276 c8_i32_253
  let v278 : BitVec 32 := Scalar.addi v2 v277
  let c31_i32_254 : BitVec 32 := 31#32
  let v279 : BitVec 32 := Scalar.andi v275 c31_i32_254
  let c3072_i32_255 : BitVec 32 := 3072#32
  let v280 : BitVec 32 := Scalar.muli v279 c3072_i32_255
  ![v278.toNat, v280.toNat]
def k0_off27 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_7 : BitVec 32 := 0#32
  let c1_i32 : BitVec 32 := 1#32
  let arg20 : BitVec 32 := Scf.iv c0_i32_7 c1_i32 k0_t1
  let c4_i32_73 : BitVec 32 := 4#32
  let v89 : BitVec 32 := Scalar.muli arg20 c4_i32_73
  let c1_i32_74 : BitVec 32 := 1#32
  let v90 : BitVec 32 := Scalar.addi v89 c1_i32_74
  let c4_i32_245 : BitVec 32 := 4#32
  let v266 : BitVec 32 := Scalar.addi v90 c4_i32_245
  let c1_i32_246 : BitVec 32 := 1#32
  let v267 : BitVec 32 := Scalar.subi v266 c1_i32_246
  let c5_i32_247 : BitVec 32 := 5#32
  let v268 : BitVec 32 := Scalar.shrsi v267 c5_i32_247
  let c8_i32_248 : BitVec 32 := 8#32
  let v269 : BitVec 32 := Scalar.muli v268 c8_i32_248
  let v270 : BitVec 32 := Scalar.addi v2 v269
  let c31_i32_249 : BitVec 32 := 31#32
  let v271 : BitVec 32 := Scalar.andi v267 c31_i32_249
  let c3072_i32_250 : BitVec 32 := 3072#32
  let v272 : BitVec 32 := Scalar.muli v271 c3072_i32_250
  ![v270.toNat, v272.toNat]

def k0_chk5 (v161 : IVec S16 32) : Prop :=
  (∀ a x, ((![v161] : Fin 1 → IVec S16 32) a x).toNat < S32.size a)
theorem k0_idx7_inb : ∀ (v161 : IVec S16 32) (k0_hw5 : k0_chk5 v161), ∀ a x, ((![v161] : Fin 1 → IVec S16 32) a x).toNat < S32.size a := fun v161 k0_hw5 => k0_hw5

def k0_chk6 (v5 : IVec S16 32) (v172 : IVec S16 32) : Prop :=
  (∀ a x, ((![v5, v172] : Fin 2 → IVec S16 32) a x).toNat < S8x3072.size a) ∧
  (∀ a x, ((![v5, v172] : Fin 2 → IVec S16 32) a x).toNat < S8x3072.size a)
theorem k0_idx8_inb : ∀ (v5 : IVec S16 32) (v172 : IVec S16 32) (k0_hw6 : k0_chk6 v5 v172), ∀ a x, ((![v5, v172] : Fin 2 → IVec S16 32) a x).toNat < S8x3072.size a := fun v5 v172 k0_hw6 => k0_hw6.1
theorem k0_idx9_inb : ∀ (v5 : IVec S16 32) (v172 : IVec S16 32) (k0_hw6 : k0_chk6 v5 v172), ∀ a x, ((![v5, v172] : Fin 2 → IVec S16 32) a x).toNat < S8x3072.size a := fun v5 v172 k0_hw6 => k0_hw6.2
@[reducible] def k0_t18_loop : Scf.Loop 32 :=
  let c0_i32_147 : BitVec 32 := 0#32
  let c192_i32_148 : BitVec 32 := 192#32
  let v185 : BitVec 32 := Scalar.addi c0_i32_147 c192_i32_148
  let c1_i32_149 : BitVec 32 := 1#32
  ⟨c0_i32_147, v185, c1_i32_149⟩
def k0_off28 (k0_t18 : Fin k0_t18_loop.trips) : Fin 2 → Nat :=
  let c0_i32_245 : BitVec 32 := 0#32
  let v266 : Index := Scalar.indexCast c0_i32_245
  let c0_i32_244 : BitVec 32 := 0#32
  let c0_i32_147 : BitVec 32 := 0#32
  let c1_i32_149 : BitVec 32 := 1#32
  let arg21 : BitVec 32 := Scf.iv c0_i32_147 c1_i32_149 k0_t18
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![0, v267.toNat]
@[reducible] def k0_t19_loop : Scf.Loop 32 :=
  let c0_i32_151 : BitVec 32 := 0#32
  let c192_i32_152 : BitVec 32 := 192#32
  let v186 : BitVec 32 := Scalar.addi c0_i32_151 c192_i32_152
  let c1_i32_153 : BitVec 32 := 1#32
  ⟨c0_i32_151, v186, c1_i32_153⟩
def k0_off29 (k0_t19 : Fin k0_t19_loop.trips) : Fin 2 → Nat :=
  let c1_i32_245 : BitVec 32 := 1#32
  let v266 : Index := Scalar.indexCast c1_i32_245
  let c0_i32_244 : BitVec 32 := 0#32
  let c0_i32_151 : BitVec 32 := 0#32
  let c1_i32_153 : BitVec 32 := 1#32
  let arg21 : BitVec 32 := Scf.iv c0_i32_151 c1_i32_153 k0_t19
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![1, v267.toNat]
@[reducible] def k0_t20_loop : Scf.Loop 32 :=
  let c0_i32_155 : BitVec 32 := 0#32
  let c192_i32_156 : BitVec 32 := 192#32
  let v187 : BitVec 32 := Scalar.addi c0_i32_155 c192_i32_156
  let c1_i32_157 : BitVec 32 := 1#32
  ⟨c0_i32_155, v187, c1_i32_157⟩
def k0_off30 (k0_t20 : Fin k0_t20_loop.trips) : Fin 2 → Nat :=
  let c2_i32_245 : BitVec 32 := 2#32
  let v266 : Index := Scalar.indexCast c2_i32_245
  let c0_i32_244 : BitVec 32 := 0#32
  let c0_i32_155 : BitVec 32 := 0#32
  let c1_i32_157 : BitVec 32 := 1#32
  let arg21 : BitVec 32 := Scf.iv c0_i32_155 c1_i32_157 k0_t20
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![2, v267.toNat]
@[reducible] def k0_t21_loop : Scf.Loop 32 :=
  let c0_i32_159 : BitVec 32 := 0#32
  let c192_i32_160 : BitVec 32 := 192#32
  let v188 : BitVec 32 := Scalar.addi c0_i32_159 c192_i32_160
  let c1_i32_161 : BitVec 32 := 1#32
  ⟨c0_i32_159, v188, c1_i32_161⟩
def k0_off31 (k0_t21 : Fin k0_t21_loop.trips) : Fin 2 → Nat :=
  let c3_i32_245 : BitVec 32 := 3#32
  let v266 : Index := Scalar.indexCast c3_i32_245
  let c0_i32_244 : BitVec 32 := 0#32
  let c0_i32_159 : BitVec 32 := 0#32
  let c1_i32_161 : BitVec 32 := 1#32
  let arg21 : BitVec 32 := Scf.iv c0_i32_159 c1_i32_161 k0_t21
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![3, v267.toNat]
@[reducible] def k0_t22_loop : Scf.Loop 32 :=
  let c0_i32_163 : BitVec 32 := 0#32
  let c192_i32_164 : BitVec 32 := 192#32
  let v189 : BitVec 32 := Scalar.addi c0_i32_163 c192_i32_164
  let c1_i32_165 : BitVec 32 := 1#32
  ⟨c0_i32_163, v189, c1_i32_165⟩
def k0_off32 (k0_t22 : Fin k0_t22_loop.trips) : Fin 2 → Nat :=
  let c4_i32_245 : BitVec 32 := 4#32
  let v266 : Index := Scalar.indexCast c4_i32_245
  let c0_i32_244 : BitVec 32 := 0#32
  let c0_i32_163 : BitVec 32 := 0#32
  let c1_i32_165 : BitVec 32 := 1#32
  let arg21 : BitVec 32 := Scf.iv c0_i32_163 c1_i32_165 k0_t22
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![4, v267.toNat]
@[reducible] def k0_t23_loop : Scf.Loop 32 :=
  let c0_i32_167 : BitVec 32 := 0#32
  let c192_i32_168 : BitVec 32 := 192#32
  let v190 : BitVec 32 := Scalar.addi c0_i32_167 c192_i32_168
  let c1_i32_169 : BitVec 32 := 1#32
  ⟨c0_i32_167, v190, c1_i32_169⟩
def k0_off33 (k0_t23 : Fin k0_t23_loop.trips) : Fin 2 → Nat :=
  let c5_i32_245 : BitVec 32 := 5#32
  let v266 : Index := Scalar.indexCast c5_i32_245
  let c0_i32_244 : BitVec 32 := 0#32
  let c0_i32_167 : BitVec 32 := 0#32
  let c1_i32_169 : BitVec 32 := 1#32
  let arg21 : BitVec 32 := Scf.iv c0_i32_167 c1_i32_169 k0_t23
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![5, v267.toNat]
@[reducible] def k0_t24_loop : Scf.Loop 32 :=
  let c0_i32_171 : BitVec 32 := 0#32
  let c192_i32_172 : BitVec 32 := 192#32
  let v191 : BitVec 32 := Scalar.addi c0_i32_171 c192_i32_172
  let c1_i32_173 : BitVec 32 := 1#32
  ⟨c0_i32_171, v191, c1_i32_173⟩
def k0_off34 (k0_t24 : Fin k0_t24_loop.trips) : Fin 2 → Nat :=
  let c6_i32 : BitVec 32 := 6#32
  let v266 : Index := Scalar.indexCast c6_i32
  let c0_i32_244 : BitVec 32 := 0#32
  let c0_i32_171 : BitVec 32 := 0#32
  let c1_i32_173 : BitVec 32 := 1#32
  let arg21 : BitVec 32 := Scf.iv c0_i32_171 c1_i32_173 k0_t24
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![6, v267.toNat]
@[reducible] def k0_t25_loop : Scf.Loop 32 :=
  let c0_i32_175 : BitVec 32 := 0#32
  let c192_i32_176 : BitVec 32 := 192#32
  let v192 : BitVec 32 := Scalar.addi c0_i32_175 c192_i32_176
  let c1_i32_177 : BitVec 32 := 1#32
  ⟨c0_i32_175, v192, c1_i32_177⟩
def k0_off35 (k0_t25 : Fin k0_t25_loop.trips) : Fin 2 → Nat :=
  let c7_i32_245 : BitVec 32 := 7#32
  let v266 : Index := Scalar.indexCast c7_i32_245
  let c0_i32_244 : BitVec 32 := 0#32
  let c0_i32_175 : BitVec 32 := 0#32
  let c1_i32_177 : BitVec 32 := 1#32
  let arg21 : BitVec 32 := Scf.iv c0_i32_175 c1_i32_177 k0_t25
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![7, v267.toNat]
def k0_off36 (i : grid0.Coords) (k0_t1 : Fin k0_t1_loop.trips) (c2_i32_131 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_7 : BitVec 32 := 0#32
  let c1_i32 : BitVec 32 := 1#32
  let arg20 : BitVec 32 := Scf.iv c0_i32_7 c1_i32 k0_t1
  let c4_i32_130 : BitVec 32 := 4#32
  let v147 : BitVec 32 := Scalar.muli arg20 c4_i32_130
  let v148 : BitVec 32 := Scalar.addi v147 c2_i32_131
  let c5_i32_179 : BitVec 32 := 5#32
  let v193 : BitVec 32 := Scalar.shrsi v148 c5_i32_179
  let c8_i32_180 : BitVec 32 := 8#32
  let v194 : BitVec 32 := Scalar.muli v193 c8_i32_180
  let v195 : BitVec 32 := Scalar.addi v2 v194
  let c31_i32_181 : BitVec 32 := 31#32
  let v196 : BitVec 32 := Scalar.andi v148 c31_i32_181
  let c3072_i32_182 : BitVec 32 := 3072#32
  let v197 : BitVec 32 := Scalar.muli v196 c3072_i32_182
  ![v195.toNat, v197.toNat]
def k0_cond5 (k0_t1 : Fin k0_t1_loop.trips) : BitVec 1 :=
  let c0_i32_7 : BitVec 32 := 0#32
  let c1_i32 : BitVec 32 := 1#32
  let arg20 : BitVec 32 := Scf.iv c0_i32_7 c1_i32 k0_t1
  let c4_i32_130 : BitVec 32 := 4#32
  let v147 : BitVec 32 := Scalar.muli arg20 c4_i32_130
  let c2_i32_131 : BitVec 32 := 2#32
  let v148 : BitVec 32 := Scalar.addi v147 c2_i32_131
  let c4_i32_183 : BitVec 32 := 4#32
  let v200 : BitVec 32 := Scalar.addi v148 c4_i32_183
  let c1_i32_184 : BitVec 32 := 1#32
  let v201 : BitVec 32 := Scalar.subi v200 c1_i32_184
  let c128_i32_185 : BitVec 32 := 128#32
  let v202 : BitVec 1 := Scalar.cmpi .slt v201 c128_i32_185
  let v203 : BitVec 32 := Scalar.extui v202
  let c0_i32_186 : BitVec 32 := 0#32
  let v204 : BitVec 1 := Scalar.cmpi .ne v203 c0_i32_186
  v204

def k0_cond6 (k0_t1 : Fin k0_t1_loop.trips) : BitVec 1 :=
  let c0_i32_7 : BitVec 32 := 0#32
  let c1_i32 : BitVec 32 := 1#32
  let arg20 : BitVec 32 := Scf.iv c0_i32_7 c1_i32 k0_t1
  let c4_i32_130 : BitVec 32 := 4#32
  let v147 : BitVec 32 := Scalar.muli arg20 c4_i32_130
  let c2_i32_131 : BitVec 32 := 2#32
  let v148 : BitVec 32 := Scalar.addi v147 c2_i32_131
  let c1_i32_243 : BitVec 32 := 1#32
  let v263 : BitVec 1 := Scalar.cmpi .sge v148 c1_i32_243
  let v264 : BitVec 32 := Scalar.extui v263
  let c0_i32_244 : BitVec 32 := 0#32
  let v265 : BitVec 1 := Scalar.cmpi .ne v264 c0_i32_244
  v265

def k0_off37 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_7 : BitVec 32 := 0#32
  let c1_i32 : BitVec 32 := 1#32
  let arg20 : BitVec 32 := Scf.iv c0_i32_7 c1_i32 k0_t1
  let c4_i32_130 : BitVec 32 := 4#32
  let v147 : BitVec 32 := Scalar.muli arg20 c4_i32_130
  let c2_i32_131 : BitVec 32 := 2#32
  let v148 : BitVec 32 := Scalar.addi v147 c2_i32_131
  let c1_i32_251 : BitVec 32 := 1#32
  let v275 : BitVec 32 := Scalar.subi v148 c1_i32_251
  let c5_i32_252 : BitVec 32 := 5#32
  let v276 : BitVec 32 := Scalar.shrsi v275 c5_i32_252
  let c8_i32_253 : BitVec 32 := 8#32
  let v277 : BitVec 32 := Scalar.muli v276 c8_i32_253
  let v278 : BitVec 32 := Scalar.addi v2 v277
  let c31_i32_254 : BitVec 32 := 31#32
  let v279 : BitVec 32 := Scalar.andi v275 c31_i32_254
  let c3072_i32_255 : BitVec 32 := 3072#32
  let v280 : BitVec 32 := Scalar.muli v279 c3072_i32_255
  ![v278.toNat, v280.toNat]
def k0_off38 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_7 : BitVec 32 := 0#32
  let c1_i32 : BitVec 32 := 1#32
  let arg20 : BitVec 32 := Scf.iv c0_i32_7 c1_i32 k0_t1
  let c4_i32_130 : BitVec 32 := 4#32
  let v147 : BitVec 32 := Scalar.muli arg20 c4_i32_130
  let c2_i32_131 : BitVec 32 := 2#32
  let v148 : BitVec 32 := Scalar.addi v147 c2_i32_131
  let c4_i32_245 : BitVec 32 := 4#32
  let v266 : BitVec 32 := Scalar.addi v148 c4_i32_245
  let c1_i32_246 : BitVec 32 := 1#32
  let v267 : BitVec 32 := Scalar.subi v266 c1_i32_246
  let c5_i32_247 : BitVec 32 := 5#32
  let v268 : BitVec 32 := Scalar.shrsi v267 c5_i32_247
  let c8_i32_248 : BitVec 32 := 8#32
  let v269 : BitVec 32 := Scalar.muli v268 c8_i32_248
  let v270 : BitVec 32 := Scalar.addi v2 v269
  let c31_i32_249 : BitVec 32 := 31#32
  let v271 : BitVec 32 := Scalar.andi v267 c31_i32_249
  let c3072_i32_250 : BitVec 32 := 3072#32
  let v272 : BitVec 32 := Scalar.muli v271 c3072_i32_250
  ![v270.toNat, v272.toNat]

def k0_chk7 (v219 : IVec S16 32) : Prop :=
  (∀ a x, ((![v219] : Fin 1 → IVec S16 32) a x).toNat < S32.size a)
theorem k0_idx10_inb : ∀ (v219 : IVec S16 32) (k0_hw7 : k0_chk7 v219), ∀ a x, ((![v219] : Fin 1 → IVec S16 32) a x).toNat < S32.size a := fun v219 k0_hw7 => k0_hw7

def k0_chk8 (v5 : IVec S16 32) (v230 : IVec S16 32) : Prop :=
  (∀ a x, ((![v5, v230] : Fin 2 → IVec S16 32) a x).toNat < S8x3072.size a) ∧
  (∀ a x, ((![v5, v230] : Fin 2 → IVec S16 32) a x).toNat < S8x3072.size a)
theorem k0_idx11_inb : ∀ (v5 : IVec S16 32) (v230 : IVec S16 32) (k0_hw8 : k0_chk8 v5 v230), ∀ a x, ((![v5, v230] : Fin 2 → IVec S16 32) a x).toNat < S8x3072.size a := fun v5 v230 k0_hw8 => k0_hw8.1
theorem k0_idx12_inb : ∀ (v5 : IVec S16 32) (v230 : IVec S16 32) (k0_hw8 : k0_chk8 v5 v230), ∀ a x, ((![v5, v230] : Fin 2 → IVec S16 32) a x).toNat < S8x3072.size a := fun v5 v230 k0_hw8 => k0_hw8.2
@[reducible] def k0_t26_loop : Scf.Loop 32 :=
  let c0_i32_203 : BitVec 32 := 0#32
  let c192_i32_204 : BitVec 32 := 192#32
  let v243 : BitVec 32 := Scalar.addi c0_i32_203 c192_i32_204
  let c1_i32_205 : BitVec 32 := 1#32
  ⟨c0_i32_203, v243, c1_i32_205⟩
def k0_off39 (k0_t26 : Fin k0_t26_loop.trips) : Fin 2 → Nat :=
  let c0_i32_245 : BitVec 32 := 0#32
  let v266 : Index := Scalar.indexCast c0_i32_245
  let c0_i32_244 : BitVec 32 := 0#32
  let c0_i32_203 : BitVec 32 := 0#32
  let c1_i32_205 : BitVec 32 := 1#32
  let arg21 : BitVec 32 := Scf.iv c0_i32_203 c1_i32_205 k0_t26
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![0, v267.toNat]
@[reducible] def k0_t27_loop : Scf.Loop 32 :=
  let c0_i32_207 : BitVec 32 := 0#32
  let c192_i32_208 : BitVec 32 := 192#32
  let v244 : BitVec 32 := Scalar.addi c0_i32_207 c192_i32_208
  let c1_i32_209 : BitVec 32 := 1#32
  ⟨c0_i32_207, v244, c1_i32_209⟩
def k0_off40 (k0_t27 : Fin k0_t27_loop.trips) : Fin 2 → Nat :=
  let c1_i32_245 : BitVec 32 := 1#32
  let v266 : Index := Scalar.indexCast c1_i32_245
  let c0_i32_244 : BitVec 32 := 0#32
  let c0_i32_207 : BitVec 32 := 0#32
  let c1_i32_209 : BitVec 32 := 1#32
  let arg21 : BitVec 32 := Scf.iv c0_i32_207 c1_i32_209 k0_t27
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![1, v267.toNat]
@[reducible] def k0_t28_loop : Scf.Loop 32 :=
  let c0_i32_211 : BitVec 32 := 0#32
  let c192_i32_212 : BitVec 32 := 192#32
  let v245 : BitVec 32 := Scalar.addi c0_i32_211 c192_i32_212
  let c1_i32_213 : BitVec 32 := 1#32
  ⟨c0_i32_211, v245, c1_i32_213⟩
def k0_off41 (k0_t28 : Fin k0_t28_loop.trips) : Fin 2 → Nat :=
  let c2_i32_245 : BitVec 32 := 2#32
  let v266 : Index := Scalar.indexCast c2_i32_245
  let c0_i32_244 : BitVec 32 := 0#32
  let c0_i32_211 : BitVec 32 := 0#32
  let c1_i32_213 : BitVec 32 := 1#32
  let arg21 : BitVec 32 := Scf.iv c0_i32_211 c1_i32_213 k0_t28
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![2, v267.toNat]
@[reducible] def k0_t29_loop : Scf.Loop 32 :=
  let c0_i32_215 : BitVec 32 := 0#32
  let c192_i32_216 : BitVec 32 := 192#32
  let v246 : BitVec 32 := Scalar.addi c0_i32_215 c192_i32_216
  let c1_i32_217 : BitVec 32 := 1#32
  ⟨c0_i32_215, v246, c1_i32_217⟩
def k0_off42 (k0_t29 : Fin k0_t29_loop.trips) : Fin 2 → Nat :=
  let c3_i32_245 : BitVec 32 := 3#32
  let v266 : Index := Scalar.indexCast c3_i32_245
  let c0_i32_244 : BitVec 32 := 0#32
  let c0_i32_215 : BitVec 32 := 0#32
  let c1_i32_217 : BitVec 32 := 1#32
  let arg21 : BitVec 32 := Scf.iv c0_i32_215 c1_i32_217 k0_t29
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![3, v267.toNat]
@[reducible] def k0_t30_loop : Scf.Loop 32 :=
  let c0_i32_219 : BitVec 32 := 0#32
  let c192_i32_220 : BitVec 32 := 192#32
  let v247 : BitVec 32 := Scalar.addi c0_i32_219 c192_i32_220
  let c1_i32_221 : BitVec 32 := 1#32
  ⟨c0_i32_219, v247, c1_i32_221⟩
def k0_off43 (k0_t30 : Fin k0_t30_loop.trips) : Fin 2 → Nat :=
  let c4_i32_245 : BitVec 32 := 4#32
  let v266 : Index := Scalar.indexCast c4_i32_245
  let c0_i32_244 : BitVec 32 := 0#32
  let c0_i32_219 : BitVec 32 := 0#32
  let c1_i32_221 : BitVec 32 := 1#32
  let arg21 : BitVec 32 := Scf.iv c0_i32_219 c1_i32_221 k0_t30
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![4, v267.toNat]
@[reducible] def k0_t31_loop : Scf.Loop 32 :=
  let c0_i32_223 : BitVec 32 := 0#32
  let c192_i32_224 : BitVec 32 := 192#32
  let v248 : BitVec 32 := Scalar.addi c0_i32_223 c192_i32_224
  let c1_i32_225 : BitVec 32 := 1#32
  ⟨c0_i32_223, v248, c1_i32_225⟩
def k0_off44 (k0_t31 : Fin k0_t31_loop.trips) : Fin 2 → Nat :=
  let c5_i32_245 : BitVec 32 := 5#32
  let v266 : Index := Scalar.indexCast c5_i32_245
  let c0_i32_244 : BitVec 32 := 0#32
  let c0_i32_223 : BitVec 32 := 0#32
  let c1_i32_225 : BitVec 32 := 1#32
  let arg21 : BitVec 32 := Scf.iv c0_i32_223 c1_i32_225 k0_t31
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![5, v267.toNat]
@[reducible] def k0_t32_loop : Scf.Loop 32 :=
  let c0_i32_227 : BitVec 32 := 0#32
  let c192_i32_228 : BitVec 32 := 192#32
  let v249 : BitVec 32 := Scalar.addi c0_i32_227 c192_i32_228
  let c1_i32_229 : BitVec 32 := 1#32
  ⟨c0_i32_227, v249, c1_i32_229⟩
def k0_off45 (k0_t32 : Fin k0_t32_loop.trips) : Fin 2 → Nat :=
  let c6_i32 : BitVec 32 := 6#32
  let v266 : Index := Scalar.indexCast c6_i32
  let c0_i32_244 : BitVec 32 := 0#32
  let c0_i32_227 : BitVec 32 := 0#32
  let c1_i32_229 : BitVec 32 := 1#32
  let arg21 : BitVec 32 := Scf.iv c0_i32_227 c1_i32_229 k0_t32
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![6, v267.toNat]
@[reducible] def k0_t33_loop : Scf.Loop 32 :=
  let c0_i32_231 : BitVec 32 := 0#32
  let c192_i32_232 : BitVec 32 := 192#32
  let v250 : BitVec 32 := Scalar.addi c0_i32_231 c192_i32_232
  let c1_i32_233 : BitVec 32 := 1#32
  ⟨c0_i32_231, v250, c1_i32_233⟩
def k0_off46 (k0_t33 : Fin k0_t33_loop.trips) : Fin 2 → Nat :=
  let c7_i32_245 : BitVec 32 := 7#32
  let v266 : Index := Scalar.indexCast c7_i32_245
  let c0_i32_244 : BitVec 32 := 0#32
  let c0_i32_231 : BitVec 32 := 0#32
  let c1_i32_233 : BitVec 32 := 1#32
  let arg21 : BitVec 32 := Scf.iv c0_i32_231 c1_i32_233 k0_t33
  let c1_i32_243 : BitVec 32 := 1#32
  let v263 : BitVec 32 := Scalar.muli arg21 c1_i32_243
  let v264 : BitVec 32 := Scalar.addi c0_i32_244 v263
  let c16_i32 : BitVec 32 := 16#32
  let v265 : BitVec 32 := Scalar.muli v264 c16_i32
  let v267 : Index := Scalar.indexCast v265
  ![7, v267.toNat]
def k0_off47 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_7 : BitVec 32 := 0#32
  let c1_i32 : BitVec 32 := 1#32
  let arg20 : BitVec 32 := Scf.iv c0_i32_7 c1_i32 k0_t1
  let c4_i32_187 : BitVec 32 := 4#32
  let v205 : BitVec 32 := Scalar.muli arg20 c4_i32_187
  let c3_i32 : BitVec 32 := 3#32
  let v206 : BitVec 32 := Scalar.addi v205 c3_i32
  let c5_i32_235 : BitVec 32 := 5#32
  let v251 : BitVec 32 := Scalar.shrsi v206 c5_i32_235
  let c8_i32_236 : BitVec 32 := 8#32
  let v252 : BitVec 32 := Scalar.muli v251 c8_i32_236
  let v253 : BitVec 32 := Scalar.addi v2 v252
  let c31_i32_237 : BitVec 32 := 31#32
  let v254 : BitVec 32 := Scalar.andi v206 c31_i32_237
  let c3072_i32_238 : BitVec 32 := 3072#32
  let v255 : BitVec 32 := Scalar.muli v254 c3072_i32_238
  ![v253.toNat, v255.toNat]
def k0_cond7 (k0_t1 : Fin k0_t1_loop.trips) : BitVec 1 :=
  let c0_i32_7 : BitVec 32 := 0#32
  let c1_i32 : BitVec 32 := 1#32
  let arg20 : BitVec 32 := Scf.iv c0_i32_7 c1_i32 k0_t1
  let c4_i32_187 : BitVec 32 := 4#32
  let v205 : BitVec 32 := Scalar.muli arg20 c4_i32_187
  let c3_i32 : BitVec 32 := 3#32
  let v206 : BitVec 32 := Scalar.addi v205 c3_i32
  let c4_i32_239 : BitVec 32 := 4#32
  let v258 : BitVec 32 := Scalar.addi v206 c4_i32_239
  let c1_i32_240 : BitVec 32 := 1#32
  let v259 : BitVec 32 := Scalar.subi v258 c1_i32_240
  let c128_i32_241 : BitVec 32 := 128#32
  let v260 : BitVec 1 := Scalar.cmpi .slt v259 c128_i32_241
  let v261 : BitVec 32 := Scalar.extui v260
  let c0_i32_242 : BitVec 32 := 0#32
  let v262 : BitVec 1 := Scalar.cmpi .ne v261 c0_i32_242
  v262

def k0_cond8 (k0_t1 : Fin k0_t1_loop.trips) : BitVec 1 :=
  let c0_i32_7 : BitVec 32 := 0#32
  let c1_i32 : BitVec 32 := 1#32
  let arg20 : BitVec 32 := Scf.iv c0_i32_7 c1_i32 k0_t1
  let c4_i32_187 : BitVec 32 := 4#32
  let v205 : BitVec 32 := Scalar.muli arg20 c4_i32_187
  let c3_i32 : BitVec 32 := 3#32
  let v206 : BitVec 32 := Scalar.addi v205 c3_i32
  let c1_i32_243 : BitVec 32 := 1#32
  let v263 : BitVec 1 := Scalar.cmpi .sge v206 c1_i32_243
  let v264 : BitVec 32 := Scalar.extui v263
  let c0_i32_244 : BitVec 32 := 0#32
  let v265 : BitVec 1 := Scalar.cmpi .ne v264 c0_i32_244
  v265

def k0_off48 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_7 : BitVec 32 := 0#32
  let c1_i32 : BitVec 32 := 1#32
  let arg20 : BitVec 32 := Scf.iv c0_i32_7 c1_i32 k0_t1
  let c4_i32_187 : BitVec 32 := 4#32
  let v205 : BitVec 32 := Scalar.muli arg20 c4_i32_187
  let c3_i32 : BitVec 32 := 3#32
  let v206 : BitVec 32 := Scalar.addi v205 c3_i32
  let c1_i32_251 : BitVec 32 := 1#32
  let v275 : BitVec 32 := Scalar.subi v206 c1_i32_251
  let c5_i32_252 : BitVec 32 := 5#32
  let v276 : BitVec 32 := Scalar.shrsi v275 c5_i32_252
  let c8_i32_253 : BitVec 32 := 8#32
  let v277 : BitVec 32 := Scalar.muli v276 c8_i32_253
  let v278 : BitVec 32 := Scalar.addi v2 v277
  let c31_i32_254 : BitVec 32 := 31#32
  let v279 : BitVec 32 := Scalar.andi v275 c31_i32_254
  let c3072_i32_255 : BitVec 32 := 3072#32
  let v280 : BitVec 32 := Scalar.muli v279 c3072_i32_255
  ![v278.toNat, v280.toNat]
def k0_off49 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_7 : BitVec 32 := 0#32
  let c1_i32 : BitVec 32 := 1#32
  let arg20 : BitVec 32 := Scf.iv c0_i32_7 c1_i32 k0_t1
  let c4_i32_187 : BitVec 32 := 4#32
  let v205 : BitVec 32 := Scalar.muli arg20 c4_i32_187
  let c3_i32 : BitVec 32 := 3#32
  let v206 : BitVec 32 := Scalar.addi v205 c3_i32
  let c4_i32_245 : BitVec 32 := 4#32
  let v266 : BitVec 32 := Scalar.addi v206 c4_i32_245
  let c1_i32_246 : BitVec 32 := 1#32
  let v267 : BitVec 32 := Scalar.subi v266 c1_i32_246
  let c5_i32_247 : BitVec 32 := 5#32
  let v268 : BitVec 32 := Scalar.shrsi v267 c5_i32_247
  let c8_i32_248 : BitVec 32 := 8#32
  let v269 : BitVec 32 := Scalar.muli v268 c8_i32_248
  let v270 : BitVec 32 := Scalar.addi v2 v269
  let c31_i32_249 : BitVec 32 := 31#32
  let v271 : BitVec 32 := Scalar.andi v267 c31_i32_249
  let c3072_i32_250 : BitVec 32 := 3072#32
  let v272 : BitVec 32 := Scalar.muli v271 c3072_i32_250
  ![v270.toNat, v272.toNat]
def k0_off50 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32 : BitVec 32 := 24#32
  let v18 : BitVec 32 := Scalar.addi v2 c24_i32
  let c86016_i32 : BitVec 32 := 86016#32
  ![v18.toNat, 86016]
def k0_off51 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_11 : BitVec 32 := 24#32
  let v21 : BitVec 32 := Scalar.addi v2 c24_i32_11
  let c89088_i32 : BitVec 32 := 89088#32
  ![v21.toNat, 89088]
def k0_off52 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_13 : BitVec 32 := 24#32
  let v24 : BitVec 32 := Scalar.addi v2 c24_i32_13
  let c92160_i32 : BitVec 32 := 92160#32
  ![v24.toNat, 92160]
def k0_off53 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_15 : BitVec 32 := 24#32
  let v27 : BitVec 32 := Scalar.addi v2 c24_i32_15
  let c95232_i32 : BitVec 32 := 95232#32
  ![v27.toNat, 95232]
@[reducible] def k0_t34_loop : Scf.Loop 32 :=
  let c0_i32_18 : BitVec 32 := 0#32
  let c4_i32 : BitVec 32 := 4#32
  let v30 : BitVec 32 := Scalar.addi c0_i32_18 c4_i32
  let c1_i32_19 : BitVec 32 := 1#32
  ⟨c0_i32_18, v30, c1_i32_19⟩
def k0_off54 (i : grid0.Coords) (k0_t34 : Fin k0_t34_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_18 : BitVec 32 := 0#32
  let c1_i32_19 : BitVec 32 := 1#32
  let arg20 : BitVec 32 := Scf.iv c0_i32_18 c1_i32_19 k0_t34
  let c8_i32_21 : BitVec 32 := 8#32
  let v31 : BitVec 32 := Scalar.muli arg20 c8_i32_21
  let v32 : BitVec 32 := Scalar.addi v2 v31
  let c98304_i32_142_r1 : BitVec 32 := 98304#32
  ![v32.toNat, 98304]

def k0_chk9 (v35 : IVec S16 32) : Prop :=
  (∀ a x, ((![v35] : Fin 1 → IVec S16 32) a x).toNat < S32.size a)
theorem k0_idx13_inb : ∀ (v35 : IVec S16 32) (k0_hw9 : k0_chk9 v35), ∀ a x, ((![v35] : Fin 1 → IVec S16 32) a x).toNat < S32.size a := fun v35 k0_hw9 => k0_hw9

def k0_chk10 (v5 : IVec S16 32) (v46 : IVec S16 32) : Prop :=
  (∀ a x, ((![v5, v46] : Fin 2 → IVec S16 32) a x).toNat < S8x1664.size a) ∧
  (∀ a x, ((![v5, v46] : Fin 2 → IVec S16 32) a x).toNat < S8x1664.size a)
theorem k0_idx14_inb : ∀ (v5 : IVec S16 32) (v46 : IVec S16 32) (k0_hw10 : k0_chk10 v5 v46), ∀ a x, ((![v5, v46] : Fin 2 → IVec S16 32) a x).toNat < S8x1664.size a := fun v5 v46 k0_hw10 => k0_hw10.1
theorem k0_idx15_inb : ∀ (v5 : IVec S16 32) (v46 : IVec S16 32) (k0_hw10 : k0_chk10 v5 v46), ∀ a x, ((![v5, v46] : Fin 2 → IVec S16 32) a x).toNat < S8x1664.size a := fun v5 v46 k0_hw10 => k0_hw10.2
@[reducible] def k0_t35_loop : Scf.Loop 32 :=
  let c0_i32_28 : BitVec 32 := 0#32
  let c104_i32 : BitVec 32 := 104#32
  let v59 : BitVec 32 := Scalar.addi c0_i32_28 c104_i32
  let c1_i32_29 : BitVec 32 := 1#32
  ⟨c0_i32_28, v59, c1_i32_29⟩
def k0_off55 (k0_t35 : Fin k0_t35_loop.trips) : Fin 2 → Nat :=
  let c0_i32_144 : BitVec 32 := 0#32
  let v192 : Index := Scalar.indexCast c0_i32_144
  let c0_i32_143 : BitVec 32 := 0#32
  let c0_i32_28 : BitVec 32 := 0#32
  let c1_i32_29 : BitVec 32 := 1#32
  let arg21 : BitVec 32 := Scf.iv c0_i32_28 c1_i32_29 k0_t35
  let c1_i32_142 : BitVec 32 := 1#32
  let v189 : BitVec 32 := Scalar.muli arg21 c1_i32_142
  let v190 : BitVec 32 := Scalar.addi c0_i32_143 v189
  let c16_i32 : BitVec 32 := 16#32
  let v191 : BitVec 32 := Scalar.muli v190 c16_i32
  let v193 : Index := Scalar.indexCast v191
  ![0, v193.toNat]
@[reducible] def k0_t36_loop : Scf.Loop 32 :=
  let c0_i32_31 : BitVec 32 := 0#32
  let c104_i32_32 : BitVec 32 := 104#32
  let v60 : BitVec 32 := Scalar.addi c0_i32_31 c104_i32_32
  let c1_i32_33 : BitVec 32 := 1#32
  ⟨c0_i32_31, v60, c1_i32_33⟩
def k0_off56 (k0_t36 : Fin k0_t36_loop.trips) : Fin 2 → Nat :=
  let c1_i32_144 : BitVec 32 := 1#32
  let v192 : Index := Scalar.indexCast c1_i32_144
  let c0_i32_143 : BitVec 32 := 0#32
  let c0_i32_31 : BitVec 32 := 0#32
  let c1_i32_33 : BitVec 32 := 1#32
  let arg21 : BitVec 32 := Scf.iv c0_i32_31 c1_i32_33 k0_t36
  let c1_i32_142 : BitVec 32 := 1#32
  let v189 : BitVec 32 := Scalar.muli arg21 c1_i32_142
  let v190 : BitVec 32 := Scalar.addi c0_i32_143 v189
  let c16_i32 : BitVec 32 := 16#32
  let v191 : BitVec 32 := Scalar.muli v190 c16_i32
  let v193 : Index := Scalar.indexCast v191
  ![1, v193.toNat]
@[reducible] def k0_t37_loop : Scf.Loop 32 :=
  let c0_i32_35 : BitVec 32 := 0#32
  let c104_i32_36 : BitVec 32 := 104#32
  let v61 : BitVec 32 := Scalar.addi c0_i32_35 c104_i32_36
  let c1_i32_37 : BitVec 32 := 1#32
  ⟨c0_i32_35, v61, c1_i32_37⟩
def k0_off57 (k0_t37 : Fin k0_t37_loop.trips) : Fin 2 → Nat :=
  let c2_i32_144 : BitVec 32 := 2#32
  let v192 : Index := Scalar.indexCast c2_i32_144
  let c0_i32_143 : BitVec 32 := 0#32
  let c0_i32_35 : BitVec 32 := 0#32
  let c1_i32_37 : BitVec 32 := 1#32
  let arg21 : BitVec 32 := Scf.iv c0_i32_35 c1_i32_37 k0_t37
  let c1_i32_142 : BitVec 32 := 1#32
  let v189 : BitVec 32 := Scalar.muli arg21 c1_i32_142
  let v190 : BitVec 32 := Scalar.addi c0_i32_143 v189
  let c16_i32 : BitVec 32 := 16#32
  let v191 : BitVec 32 := Scalar.muli v190 c16_i32
  let v193 : Index := Scalar.indexCast v191
  ![2, v193.toNat]
@[reducible] def k0_t38_loop : Scf.Loop 32 :=
  let c0_i32_39 : BitVec 32 := 0#32
  let c104_i32_40 : BitVec 32 := 104#32
  let v62 : BitVec 32 := Scalar.addi c0_i32_39 c104_i32_40
  let c1_i32_41 : BitVec 32 := 1#32
  ⟨c0_i32_39, v62, c1_i32_41⟩
def k0_off58 (k0_t38 : Fin k0_t38_loop.trips) : Fin 2 → Nat :=
  let c3_i32_144 : BitVec 32 := 3#32
  let v192 : Index := Scalar.indexCast c3_i32_144
  let c0_i32_143 : BitVec 32 := 0#32
  let c0_i32_39 : BitVec 32 := 0#32
  let c1_i32_41 : BitVec 32 := 1#32
  let arg21 : BitVec 32 := Scf.iv c0_i32_39 c1_i32_41 k0_t38
  let c1_i32_142 : BitVec 32 := 1#32
  let v189 : BitVec 32 := Scalar.muli arg21 c1_i32_142
  let v190 : BitVec 32 := Scalar.addi c0_i32_143 v189
  let c16_i32 : BitVec 32 := 16#32
  let v191 : BitVec 32 := Scalar.muli v190 c16_i32
  let v193 : Index := Scalar.indexCast v191
  ![3, v193.toNat]
@[reducible] def k0_t39_loop : Scf.Loop 32 :=
  let c0_i32_43 : BitVec 32 := 0#32
  let c104_i32_44 : BitVec 32 := 104#32
  let v63 : BitVec 32 := Scalar.addi c0_i32_43 c104_i32_44
  let c1_i32_45 : BitVec 32 := 1#32
  ⟨c0_i32_43, v63, c1_i32_45⟩
def k0_off59 (k0_t39 : Fin k0_t39_loop.trips) : Fin 2 → Nat :=
  let c4_i32_144 : BitVec 32 := 4#32
  let v192 : Index := Scalar.indexCast c4_i32_144
  let c0_i32_143 : BitVec 32 := 0#32
  let c0_i32_43 : BitVec 32 := 0#32
  let c1_i32_45 : BitVec 32 := 1#32
  let arg21 : BitVec 32 := Scf.iv c0_i32_43 c1_i32_45 k0_t39
  let c1_i32_142 : BitVec 32 := 1#32
  let v189 : BitVec 32 := Scalar.muli arg21 c1_i32_142
  let v190 : BitVec 32 := Scalar.addi c0_i32_143 v189
  let c16_i32 : BitVec 32 := 16#32
  let v191 : BitVec 32 := Scalar.muli v190 c16_i32
  let v193 : Index := Scalar.indexCast v191
  ![4, v193.toNat]
@[reducible] def k0_t40_loop : Scf.Loop 32 :=
  let c0_i32_47 : BitVec 32 := 0#32
  let c104_i32_48 : BitVec 32 := 104#32
  let v64 : BitVec 32 := Scalar.addi c0_i32_47 c104_i32_48
  let c1_i32_49 : BitVec 32 := 1#32
  ⟨c0_i32_47, v64, c1_i32_49⟩
def k0_off60 (k0_t40 : Fin k0_t40_loop.trips) : Fin 2 → Nat :=
  let c5_i32_144 : BitVec 32 := 5#32
  let v192 : Index := Scalar.indexCast c5_i32_144
  let c0_i32_143 : BitVec 32 := 0#32
  let c0_i32_47 : BitVec 32 := 0#32
  let c1_i32_49 : BitVec 32 := 1#32
  let arg21 : BitVec 32 := Scf.iv c0_i32_47 c1_i32_49 k0_t40
  let c1_i32_142 : BitVec 32 := 1#32
  let v189 : BitVec 32 := Scalar.muli arg21 c1_i32_142
  let v190 : BitVec 32 := Scalar.addi c0_i32_143 v189
  let c16_i32 : BitVec 32 := 16#32
  let v191 : BitVec 32 := Scalar.muli v190 c16_i32
  let v193 : Index := Scalar.indexCast v191
  ![5, v193.toNat]
@[reducible] def k0_t41_loop : Scf.Loop 32 :=
  let c0_i32_51 : BitVec 32 := 0#32
  let c104_i32_52 : BitVec 32 := 104#32
  let v65 : BitVec 32 := Scalar.addi c0_i32_51 c104_i32_52
  let c1_i32_53 : BitVec 32 := 1#32
  ⟨c0_i32_51, v65, c1_i32_53⟩
def k0_off61 (k0_t41 : Fin k0_t41_loop.trips) : Fin 2 → Nat :=
  let c6_i32_144 : BitVec 32 := 6#32
  let v192 : Index := Scalar.indexCast c6_i32_144
  let c0_i32_143 : BitVec 32 := 0#32
  let c0_i32_51 : BitVec 32 := 0#32
  let c1_i32_53 : BitVec 32 := 1#32
  let arg21 : BitVec 32 := Scf.iv c0_i32_51 c1_i32_53 k0_t41
  let c1_i32_142 : BitVec 32 := 1#32
  let v189 : BitVec 32 := Scalar.muli arg21 c1_i32_142
  let v190 : BitVec 32 := Scalar.addi c0_i32_143 v189
  let c16_i32 : BitVec 32 := 16#32
  let v191 : BitVec 32 := Scalar.muli v190 c16_i32
  let v193 : Index := Scalar.indexCast v191
  ![6, v193.toNat]
@[reducible] def k0_t42_loop : Scf.Loop 32 :=
  let c0_i32_55 : BitVec 32 := 0#32
  let c104_i32_56 : BitVec 32 := 104#32
  let v66 : BitVec 32 := Scalar.addi c0_i32_55 c104_i32_56
  let c1_i32_57 : BitVec 32 := 1#32
  ⟨c0_i32_55, v66, c1_i32_57⟩
def k0_off62 (k0_t42 : Fin k0_t42_loop.trips) : Fin 2 → Nat :=
  let c7_i32_144 : BitVec 32 := 7#32
  let v192 : Index := Scalar.indexCast c7_i32_144
  let c0_i32_143 : BitVec 32 := 0#32
  let c0_i32_55 : BitVec 32 := 0#32
  let c1_i32_57 : BitVec 32 := 1#32
  let arg21 : BitVec 32 := Scf.iv c0_i32_55 c1_i32_57 k0_t42
  let c1_i32_142 : BitVec 32 := 1#32
  let v189 : BitVec 32 := Scalar.muli arg21 c1_i32_142
  let v190 : BitVec 32 := Scalar.addi c0_i32_143 v189
  let c16_i32 : BitVec 32 := 16#32
  let v191 : BitVec 32 := Scalar.muli v190 c16_i32
  let v193 : Index := Scalar.indexCast v191
  ![7, v193.toNat]
def k0_off63 (i : grid0.Coords) (k0_t34 : Fin k0_t34_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_18 : BitVec 32 := 0#32
  let c1_i32_19 : BitVec 32 := 1#32
  let arg20 : BitVec 32 := Scf.iv c0_i32_18 c1_i32_19 k0_t34
  let c8_i32_21 : BitVec 32 := 8#32
  let v31 : BitVec 32 := Scalar.muli arg20 c8_i32_21
  let v32 : BitVec 32 := Scalar.addi v2 v31
  let c98304_i32_142_r2 : BitVec 32 := 98304#32
  ![v32.toNat, 98304]
def k0_off64 (i : grid0.Coords) (k0_t34 : Fin k0_t34_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_18 : BitVec 32 := 0#32
  let c1_i32_19 : BitVec 32 := 1#32
  let arg20 : BitVec 32 := Scf.iv c0_i32_18 c1_i32_19 k0_t34
  let c8_i32_21 : BitVec 32 := 8#32
  let v31 : BitVec 32 := Scalar.muli arg20 c8_i32_21
  let v32 : BitVec 32 := Scalar.addi v2 v31
  let c99968_i32_142_r3 : BitVec 32 := 99968#32
  ![v32.toNat, 99968]

def k0_chk11 (v69 : IVec S16 32) : Prop :=
  (∀ a x, ((![v69] : Fin 1 → IVec S16 32) a x).toNat < S32.size a)
theorem k0_idx16_inb : ∀ (v69 : IVec S16 32) (k0_hw11 : k0_chk11 v69), ∀ a x, ((![v69] : Fin 1 → IVec S16 32) a x).toNat < S32.size a := fun v69 k0_hw11 => k0_hw11

def k0_chk12 (v5 : IVec S16 32) (v80 : IVec S16 32) : Prop :=
  (∀ a x, ((![v5, v80] : Fin 2 → IVec S16 32) a x).toNat < S8x32.size a) ∧
  (∀ a x, ((![v5, v80] : Fin 2 → IVec S16 32) a x).toNat < S8x32.size a)
theorem k0_idx17_inb : ∀ (v5 : IVec S16 32) (v80 : IVec S16 32) (k0_hw12 : k0_chk12 v5 v80), ∀ a x, ((![v5, v80] : Fin 2 → IVec S16 32) a x).toNat < S8x32.size a := fun v5 v80 k0_hw12 => k0_hw12.1
theorem k0_idx18_inb : ∀ (v5 : IVec S16 32) (v80 : IVec S16 32) (k0_hw12 : k0_chk12 v5 v80), ∀ a x, ((![v5, v80] : Fin 2 → IVec S16 32) a x).toNat < S8x32.size a := fun v5 v80 k0_hw12 => k0_hw12.2
def k0_off65 (i : grid0.Coords) (k0_t34 : Fin k0_t34_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_18 : BitVec 32 := 0#32
  let c1_i32_19 : BitVec 32 := 1#32
  let arg20 : BitVec 32 := Scf.iv c0_i32_18 c1_i32_19 k0_t34
  let c8_i32_21 : BitVec 32 := 8#32
  let v31 : BitVec 32 := Scalar.muli arg20 c8_i32_21
  let v32 : BitVec 32 := Scalar.addi v2 v31
  let c99968_i32_142_r4 : BitVec 32 := 99968#32
  ![v32.toNat, 99968]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "cos_m" => some ((Real.sqrt (54194568723295 / 70368744177664) : ℝ) : EReal)
  | _ => none
-- ==== ReferenceIdeal.lean ====
abbrev S1024x100000 : Shape := ⟨2, ![1024, 100000]⟩
abbrev S1024 : Shape := ⟨1, ![1024]⟩
abbrev S1024x128 : Shape := ⟨2, ![1024, 128]⟩
abbrev S_ : Shape := ⟨0, ![]⟩
abbrev S1024x1 : Shape := ⟨2, ![1024, 1]⟩
abbrev S1024x2 : Shape := ⟨2, ![1024, 2]⟩

abbrev nBuf : Space → Nat
  | .hbm => 42
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S1024x128, .f32⟩
  | .hbm, ⟨3, _⟩ => ⟨S_, .f32⟩
  | .hbm, ⟨4, _⟩ => ⟨S_, .f32⟩
  | .hbm, ⟨5, _⟩ => ⟨S_, .i32⟩
  | .hbm, ⟨6, _⟩ => ⟨S1024, .i32⟩
  | .hbm, ⟨7, _⟩ => ⟨S1024, .i1⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S1024x100000, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S_, .i32⟩
  | .hbm, ⟨26, _⟩ => ⟨S1024, .i32⟩
  | .hbm, ⟨27, _⟩ => ⟨S1024, .i1⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S1024, .i32⟩
  | .hbm, ⟨32, _⟩ => ⟨S1024x1, .i32⟩
  | .hbm, ⟨33, _⟩ => ⟨S1024x1, .i32⟩
  | .hbm, ⟨34, _⟩ => ⟨S1024x2, .i32⟩
  | .hbm, ⟨35, _⟩ => ⟨S1024x100000, .f32⟩
  | .hbm, ⟨36, _⟩ => ⟨S1024x100000, .f32⟩
  | .hbm, ⟨37, _⟩ => ⟨S1024x100000, .f32⟩
  | .hbm, ⟨38, _⟩ => ⟨S1024x100000, .f32⟩
  | .hbm, ⟨39, _⟩ => ⟨S_, .f32⟩
  | .hbm, ⟨40, _⟩ => ⟨S1024x100000, .f32⟩
  | .hbm, ⟨41, _⟩ => ⟨S1024x100000, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_call1_v0 : Ref sig .tc := ⟨.hbm, 15, rfl⟩
abbrev main_call1_v1 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_c_5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Proof.Base.lean ====
/-
  The kernel as the SparseCore launch sees it, the arrays as locations, and the memory steps of a tile stated on whole
  buffers held at named contents: a gather, a masked scatter, a vector load, a vector store.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.VecWindow
public import Idealize.ShloMosaic.Lib.Tactic
public import proofs.«01_k».proof.Proof.Gen.KernelIdeal

@[expose] public section

noncomputable section

namespace Cert.Proof.Arc

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds beside the counters that a tile's copies use. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
/-- The counters' embedding. -/
abbrev EC : UEmb Counters (MT nD τ sig (HIx 1) (Elt F) ℕ UU ℕ) := countersEmb

/-! ## The arrays -/

/-- The logits, the labels and the result, as locations of device `d`. -/
abbrev xLoc (d : Dev nD) : Loc nD τ sig := (SparseCore.T d).loc main_arg0
abbrev lLoc (d : Dev nD) : Loc nD τ sig := (SparseCore.T d).loc main_arg1
abbrev eLoc (d : Dev nD) : Loc nD τ sig := (SparseCore.T d).loc main_arg2
abbrev oLoc (d : Dev nD) : Loc nD τ sig := (SparseCore.T d).loc main_v0

abbrev xV : Memref sig .scVector .hbm S1024x100000 .f32 := Memref.whole main_arg0_scv
abbrev lV : Memref sig .scVector .hbm S1024 .i32 := Memref.whole main_arg1_scv
abbrev oV : Memref sig .scVector .hbm S1024x100000 .f32 := Memref.whole main_v0_scv

/-- The tile of a grid point, and its thread. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-! ## Steps on buffers held at named contents -/

/-- The four buffers of the ring, the two buffers of the last columns, and the labels' buffer. -/
abbrev b0 : Memref sig .scVector .vmem S8x3072 .f32 := Memref.whole cc0_scratch0
abbrev b1 : Memref sig .scVector .vmem S8x3072 .f32 := Memref.whole cc0_scratch1
abbrev b2 : Memref sig .scVector .vmem S8x3072 .f32 := Memref.whole cc0_scratch2
abbrev b3 : Memref sig .scVector .vmem S8x3072 .f32 := Memref.whole cc0_scratch3
abbrev bR : Memref sig .scVector .vmem S8x1664 .f32 := Memref.whole cc0_scratch4
abbrev bT : Memref sig .scVector .vmem S8x32 .f32 := Memref.whole cc0_scratch5
abbrev bL : Memref sig .scVector .vmem S32 .i32 := Memref.whole cc0_scratch6

/-! ## Steps on buffers held at named contents -/

section Steps

variable [FloatOps F] [Named F] (d : Dev nD) (L : grid0.Coords)

/-- The tile's program logic. -/
local notation "WP" => wp frame (wpE (defs₀ (F := F)) 𝒱₀ (thr d L) none) Set.univ

/-- The tile's programs. -/
abbrev TProg (F : FTy → Type) (L : grid0.Coords) (α : Type) : Type 1 := Prog (TpuEff nD τ sig (Elt F) Λ₀ (.scVector (cV L) (jV L))) α

/-- The tile holds the whole of buffer `b`, at contents `x`. -/
def buf {s : Shape} {e : EltTy} (b : Memref sig .scVector .vmem s e) (x : s.Idx → Elt F e) : sProp 𝕄 :=
  owns (thr d L) b fullShare x

omit [FloatOps F] [Named F] in
theorem whole_set_eq {s : Shape} {e : EltTy} (b : Memref sig .scVector .vmem s e) : (b.access (.whole s)).set = b.view.set := by
  show (b.view.slice (.whole s)).set = _
  rw [View.set_slice, Rect.set_whole]; rfl

omit [FloatOps F] [Named F] in
theorem whole_read_eq {s : Shape} {e : EltTy} (b : Memref sig .scVector .vmem s e) (f : b.view.ty.Contents (Elt F)) :
    (b.access (.whole s)).read (Elt F) f = b.view.read (Elt F) f := by
  funext x
  show b.view.read (Elt F) f ((Rect.whole s).emb x) = _
  rw [Rect.emb_whole_apply]

/-- An assumption that holds is passed. -/
theorem wp_chk {P : Prop} {dc : Decidable P} (h : P) {α : Type} {Q : α → sProp 𝕄} {k : PLift P → TProg F L α} :
    WP (k ⟨h⟩) Q ⊢ WP (Prog.lift (.assume P dc) >>= k) Q := by
  rw [Prog.bind_lift, wp_assume_of _ _ _ _ h]

/-- An indexed load reads the contents at the index vectors. -/
theorem wp_gather {s t : Shape} {e : EltTy} (b : Memref sig .scVector .vmem s e) {x : s.Idx → Elt F e}
    {idxs : Fin s.rank → IVec t 32} {h : ∀ a y, (idxs a y).toNat < s.size a} {hl : b.view.Loads}
    {α : Type} {Q : α → sProp 𝕄} {k : (t.Idx → Elt F e) → TProg F L α} :
    buf d L b x ⊢ iprop((buf d L b x -∗ WP (k (loadIdx x idxs h)) Q) -∗ WP (SparseCore.vectorLoadIdx b idxs h hl >>= k) Q) := by
  unfold buf owns
  iintro ⟨%f, %hf, H⟩ Hk
  subst hf
  iapply (SparseCore.wp_vectorLoadIdx 𝒱₀ (thr d L) none Set.univ (base := b) (S := b.view.set) (q := fullShare) (whole_set_eq b).le) $$ H
  iintro H
  rw [whole_read_eq]
  iapply Hk
  iexists f; isplitr; · ipureintro; rfl
  iexact H

/-- A masked indexed store leaves the scatter of what the buffer held. -/
theorem wp_scatter {s : Shape} {e : EltTy} {n : Fin 1 → Nat} (b : Memref sig .scVector .vmem s e) {x : s.Idx → Elt F e}
    {idxs : Fin s.rank → IVec ⟨1, n⟩ 32} {v : Vec F ⟨1, n⟩ e} {mask : IVec ⟨1, n⟩ 1}
    {h : ∀ a y, (idxs a y).toNat < s.size a} {hs : (b.access (.whole s)).Stores Finset.univ}
    {α : Type} {Q : α → sProp 𝕄} {k : PUnit.{1} → TProg F L α} {x' : s.Idx → Elt F e} (hx' : storeIdx x idxs v mask false h = x') :
    buf d L b x ⊢ iprop((buf d L b x' -∗ WP (k ⟨⟩) Q)
      -∗ WP (SparseCore.vectorStoreIdx b idxs v mask false h hs >>= k) Q) := by
  subst hx'
  unfold buf owns
  iintro ⟨%f, %hf, H⟩ Hk
  subst hf
  rw [← whole_set_eq b]
  iapply (SparseCore.wp_vectorStoreIdx 𝒱₀ (thr d L) none Set.univ (base := b) (idxs := idxs) (v := v) (mask := mask) (add := false)
    (h := h) (hs := hs) (k := k) (f := f)) $$ H
  iintro H
  iapply Hk
  iexists _; isplitr; swap; · iexact H
  ipureintro
  rw [← whole_read_eq, View.read_write_univ, whole_read_eq]

/-- A vector load reads the contents in the rectangle. -/
theorem wp_ld {s : Shape} {e : EltTy} (b : Memref sig .scVector .vmem s e) {x : s.Idx → Elt F e} {r : Rect s}
    {hl : b.view.LoadsAt r.toLoadRect} {α : Type} {Q : α → sProp 𝕄} {k : (r.shape.Idx → Elt F e) → TProg F L α} :
    buf d L b x ⊢ iprop((buf d L b x -∗ WP (k fun i => x (r.emb i)) Q) -∗ WP (Prog.lift (.load b r.toLoadRect hl) >>= k) Q) := by
  unfold buf owns
  iintro ⟨%f, %hf, H⟩ Hk
  subst hf
  rw [Prog.bind_lift]
  iapply (wp_load 𝒱₀ (thr d L) none Set.univ (m := b) (r := r.toLoadRect) (S := b.view.set) (View.setOn_subset_set _ _)) $$ H
  iintro H
  iapply Hk
  iexists f; isplitr; · ipureintro; rfl
  iexact H

/-- A vector store leaves the stored vector in the rectangle and the rest as it was. -/
theorem wp_st {s : Shape} {e : EltTy} (b : Memref sig .scVector .vmem s e) {x : s.Idx → Elt F e} {r : Rect s}
    {w : r.shape.Idx → Elt F e} {hx : (b.access r).Stores Finset.univ} {hm : Finset.univ = Finset.univ ∨ ∀ a, r.stride a = 1}
    {α : Type} {Q : α → sProp 𝕄} {k : PUnit.{1} → TProg F L α} (x' : s.Idx → Elt F e) (h1 : ∀ i, x' (r.emb i) = w i) (h2 : ∀ p, p ∉ r.set → x' p = x p) :
    buf d L b x ⊢ iprop((buf d L b x' -∗ WP (k ⟨⟩) Q) -∗ WP (Prog.lift (.store b r w Finset.univ hx hm) >>= k) Q) := by
  unfold buf owns
  iintro ⟨%f, %hf, H⟩ Hk
  subst hf
  rw [Prog.bind_lift]
  have hset : (b.access r).setOn Finset.univ ⊆ b.view.set := by
    show (b.view.slice r).set ⊆ _
    rw [View.set_slice]; exact View.setOn_subset_set _ _
  iapply (wp_store 𝒱₀ (thr d L) none Set.univ (m := b) (r := r) (w := w) (Mk := Finset.univ) (hx := hx) (hm := hm) (k := k) (f := f)
    (S := b.view.set) hset) $$ H
  iintro H
  iapply Hk
  iexists _; isplitr; swap; · iexact H
  ipureintro
  funext p
  by_cases hp : p ∈ r.set
  · rw [← Rect.map_emb_univ] at hp
    obtain ⟨i, -, rfl⟩ := Finset.mem_map.1 hp
    rw [h1]
    exact congrFun (View.read_write_univ (v := b.access r) (Val := Elt F) f w) i
  · rw [h2 p hp]
    refine View.read_congr_at (v := b.view) p (View.write_of_not_mem (v := b.access r) f w _ ?_)
    show b.view.emb p ∉ (b.view.slice r).set
    rw [View.set_slice]
    intro hm
    obtain ⟨q, hq, he⟩ := Finset.mem_map.1 hm
    exact hp (b.view.emb.injective he ▸ hq)

end Steps

end Cert.Proof.Arc

end
-- ==== Proof.Vals.lean ====
/-
  The arithmetic of one slab: what the label lookup, the mask and the masked scatter compute, lane by lane, and what a
  buffer then holds: the logits' window with the label's element replaced, then every element scaled.
-/
module

public import proofs.«01_k».proof.Proof.Base
public import Idealize.ShloMosaic.Lib.ValueLayout

@[expose] public section

noncomputable section

namespace Cert.Proof.Arc

open Cert.KernelIdeal Cert.KernelIdeal.Gen
open Idealize.ShloMosaic
open Idealize.ShloMosaic.ValueIdx

variable {F : FTy → Type}

/-- A buffer's shape: eight rows of `W` columns. -/
abbrev S8 (W : ℕ) : Shape := ⟨2, ![8, W]⟩

/-- Row `r` and column `c` of the array, each read modulo its extent. -/
def ixA (r c : ℕ) : S1024x100000.Idx := ix2 (⟨r % 1024, Nat.mod_lt _ (by decide)⟩ : Fin 1024) (⟨c % 100000, Nat.mod_lt _ (by decide)⟩ : Fin 100000)

theorem ixA_self (i : S1024x100000.Idx) : ixA (i 0).val (i 1).val = i := by
  funext a
  match a with
  | 0 => exact Fin.ext (Nat.mod_eq_of_lt (i 0).isLt)
  | 1 => exact Fin.ext (Nat.mod_eq_of_lt (i 1).isLt)

/-- Label `r`, read modulo the number of labels. -/
def labAt (Lb : S1024.Idx → BitVec 32) (r : ℕ) : BitVec 32 := Lb (ix1 (⟨r % 1024, Nat.mod_lt _ (by decide)⟩ : Fin 1024))

/-- The window of `X` whose first element is `(R, C)`. -/
def win (W : ℕ) (X : S1024x100000.Idx → F .f32) (R C : ℕ) : (S8 W).Idx → F .f32 := fun p => X (ixA (R + (p 0).val) (C + (p 1).val))

section Values

variable [FloatOps F] [Named F]

/-- The label's element's new value, as the kernel computes it from the logit. -/
def fv (t : F .f32) : F .f32 :=
  FloatOps.subf (FloatOps.mulf t (Named.named κ "cos_m" 0x3F60A940#32))
    (FloatOps.mulf (FloatOps.sqrt (FloatOps.maximumf (FloatOps.subf (Scalar.ofBits .f32 0x3F800000#32) (FloatOps.mulf t t)) (Scalar.ofBits .f32 0x00000000#32)))
      (Scalar.ofBits .f32 0x3EF57744#32))

/-- The logits with each row's label's element replaced. -/
def fixed (X : S1024x100000.Idx → F .f32) (Lb : S1024.Idx → BitVec 32) : S1024x100000.Idx → F .f32 :=
  fun i => if (labAt Lb (i 0).val).toNat = (i 1).val then fv (X i) else X i

/-- The scale: 64. -/
def sc64 (F : FTy → Type) [FloatOps F] : F .f32 := Scalar.ofBits .f32 0x42800000#32

/-- What the kernel writes. -/
def outG (X : S1024x100000.Idx → F .f32) (Lb : S1024.Idx → BitVec 32) : S1024x100000.Idx → F .f32 :=
  fun i => FloatOps.mulf (fixed X Lb i) (sc64 F)

end Values

/-! ## The lanes -/

/-- Lane `j`'s row in the band: `j mod 8`. -/
abbrev lane8 : IVec S16 32 := andi (iota .scVector S16 32 [0] iota_S16_d0_w32_scVector) (broadcast S16 7#32)
/-- The first eight lanes. -/
abbrev isRow : IVec S16 1 := cmpi .slt (iota .scVector S16 32 [0] iota_S16_d0_w32_scVector) (broadcast S16 8#32)

theorem lane8_ix (j : Fin 16) : lane8 (ix1 j) = BitVec.ofNat 32 (j.val % 8) := by revert j; decide +kernel
theorem isRow_ix (j : Fin 16) : (isRow (ix1 j) = 1#1) ↔ j.val < 8 := by revert j; decide +kernel

theorem lane8_toNat (j : Fin 16) : (lane8 (ix1 j)).toNat = j.val % 8 := by
  rw [lane8_ix, BitVec.toNat_ofNat, Nat.mod_eq_of_lt]; omega

theorem eq_lane (y : S16.Idx) : ∃ j : Fin 16, y = ix1 j := ⟨y 0, eq_ix1 y⟩

theorem ofLane_eq (k : Fin 16) : (Shape.ofLane (d := ![16]) k : S16.Idx) = ix1 k := by
  funext a
  match a with
  | 0 => rfl

/-- The labels of the sixteen lanes of the band whose first row is `R`. -/
def labVec (Lb : S1024.Idx → BitVec 32) (R : ℕ) : IVec S16 32 := fun y => labAt Lb (R + (y 0).val % 8)

/-- A label's column within the slab, the mask of the labels in the slab, and the column with 0 outside. -/
abbrev locV (lab : IVec S16 32) (c0 : BitVec 32) : IVec S16 32 := subi lab (broadcast S16 c0)
abbrev maskV (lab : IVec S16 32) (c0 w : BitVec 32) : IVec S16 1 :=
  andi (andi (cmpi .sge (locV lab c0) (broadcast S16 0#32)) (cmpi .slt (locV lab c0) (broadcast S16 w))) isRow
abbrev safeV (lab : IVec S16 32) (c0 w : BitVec 32) : IVec S16 32 := select (maskV lab c0 w) (locV lab c0) (broadcast S16 0#32)

/-- Whether a label's offset from the slab's first column is a column of the slab. -/
theorem inSlab_iff (l : BitVec 32) {C W : ℕ} (hC : C + W ≤ 100000) :
    ((l - BitVec.ofNat 32 C).toInt ≥ 0 ∧ (l - BitVec.ofNat 32 C).toInt < (BitVec.ofNat 32 W).toInt) ↔ C ≤ l.toNat ∧ l.toNat < C + W := by
  have hl := l.isLt
  have h1 : (l - BitVec.ofNat 32 C).toNat = (2 ^ 32 - C + l.toNat) % 2 ^ 32 := by
    rw [BitVec.toNat_sub, BitVec.toNat_ofNat, Nat.mod_eq_of_lt (a := C) (by omega)]
  have h2 : (BitVec.ofNat 32 W).toInt = W := by
    rw [BitVec.toInt_eq_toNat_cond, BitVec.toNat_ofNat, Nat.mod_eq_of_lt (a := W) (by omega)]
    split <;> omega
  rw [h2, BitVec.toInt_eq_toNat_cond, h1]
  split <;> omega

theorem and1 (a b : BitVec 1) : (a &&& b = 1#1) ↔ a = 1#1 ∧ b = 1#1 := by revert a b; decide

theorem ofBool1 (b : Bool) : BitVec.ofBool b = 1#1 ↔ b = true := by revert b; decide

theorem mask_iff (lab : IVec S16 32) {C W : ℕ} (hC : C + W ≤ 100000) (j : Fin 16) :
    maskV lab (BitVec.ofNat 32 C) (BitVec.ofNat 32 W) (ix1 j) = 1#1 ↔
      (C ≤ (lab (ix1 j)).toNat ∧ (lab (ix1 j)).toNat < C + W) ∧ j.val < 8 := by
  rw [← isRow_ix, ← inSlab_iff (lab (ix1 j)) hC]
  show (_ &&& _) &&& _ = 1#1 ↔ _
  rw [and1, and1]
  refine and_congr_left' (and_congr ?_ ?_)
  · show BitVec.ofBool (BitVec.sle 0#32 _) = 1#1 ↔ _
    rw [ofBool1, BitVec.sle_eq_decide, decide_eq_true_iff]; rfl
  · show BitVec.ofBool (BitVec.slt _ _) = 1#1 ↔ _
    rw [ofBool1, BitVec.slt_eq_decide, decide_eq_true_iff]; rfl

theorem loc_toNat (l : BitVec 32) {C W : ℕ} (hC : C + W ≤ 100000) (h : C ≤ l.toNat ∧ l.toNat < C + W) :
    (l - BitVec.ofNat 32 C).toNat = l.toNat - C := by
  have hl := l.isLt
  rw [BitVec.toNat_sub, BitVec.toNat_ofNat, Nat.mod_eq_of_lt (a := C) (by omega)]
  omega

theorem safe_ix (lab : IVec S16 32) (c0 w : BitVec 32) (j : Fin 16) :
    safeV lab c0 w (ix1 j) = if maskV lab c0 w (ix1 j) = 1#1 then lab (ix1 j) - c0 else 0#32 := rfl

/-- The safe column of every lane is a column of the buffer. -/
theorem safe_lt (lab : IVec S16 32) {C W : ℕ} (hC : C + W ≤ 100000) (hW : 0 < W) (y : S16.Idx) :
    (safeV lab (BitVec.ofNat 32 C) (BitVec.ofNat 32 W) y).toNat < W := by
  obtain ⟨j, rfl⟩ := eq_lane y
  rw [safe_ix]
  split
  · next h =>
    have h' := ((mask_iff lab hC _).1 h).1
    rw [loc_toNat _ hC h']; omega
  · exact hW

/-- The lookups and the scatter stay inside the buffer. -/
theorem idx_lt (lab : IVec S16 32) {C W : ℕ} (hC : C + W ≤ 100000) (hW : 0 < W) :
    ∀ a x, ((![lane8, safeV lab (BitVec.ofNat 32 C) (BitVec.ofNat 32 W)] : Fin 2 → IVec S16 32) a x).toNat < (S8 W).size a := by
  intro a x
  match a with
  | 0 =>
    show (lane8 x).toNat < 8
    obtain ⟨j, rfl⟩ := eq_lane x
    rw [lane8_toNat]; omega
  | 1 => exact safe_lt lab hC hW x

/-! ## The scatter -/

/-- A fold of updates read at one point: a step that hits the point stores `a` there, every other step leaves it. -/
theorem foldl_point {β γ κ : Type} (step : (β → γ) → κ → β → γ) (hit : κ → Prop) (p : β) (a : γ)
    (hy : ∀ g k, hit k → step g k p = a) (hn : ∀ g k, ¬ hit k → step g k p = g p) (l : List κ) :
    ∀ g : β → γ, ((∃ k ∈ l, hit k) → l.foldl step g p = a) ∧ ((¬ ∃ k ∈ l, hit k) → l.foldl step g p = g p) := by
  induction l with
  | nil => intro g; exact ⟨fun ⟨k, hk, _⟩ => absurd hk List.not_mem_nil, fun _ => rfl⟩
  | cons k l ih =>
    intro g
    rw [List.foldl_cons]
    by_cases hk : hit k
    · refine ⟨fun _ => ?_, fun h' => absurd ⟨k, List.mem_cons_self, hk⟩ h'⟩
      by_cases hr : ∃ k ∈ l, hit k
      · exact (ih _).1 hr
      · exact ((ih _).2 hr).trans (hy g k hk)
    · constructor
      · rintro ⟨k', hk', h'⟩
        rcases List.mem_cons.1 hk' with rfl | hk'
        · exact absurd h' hk
        · exact (ih _).1 ⟨k', hk', h'⟩
      · intro h'
        exact ((ih _).2 fun ⟨k', hk', h''⟩ => h' ⟨k', List.mem_cons_of_mem _ hk', h''⟩).trans (hn g k hk)

/-- A masked scatter, at a point where every masked lane that hits it stores the same value. -/
theorem storeIdx_hits {s : Shape} {d : Fin 1 → ℕ} [FloatOps F] (x : Vec F s .f32) (idxs : Fin s.rank → IVec ⟨1, d⟩ 32)
    (v : Vec F ⟨1, d⟩ .f32) (mask : IVec ⟨1, d⟩ 1)
    (h : ∀ a y, (idxs a y).toNat < s.size a) (p : s.Idx) (a : F .f32)
    (ha : ∀ k : Fin (d 0), mask (Shape.ofLane k) = 1 → (∀ b, (p b).val = (idxs b (Shape.ofLane k)).toNat) → v (Shape.ofLane k) = a) :
    ((∃ k : Fin (d 0), mask (Shape.ofLane k) = 1 ∧ ∀ b, (p b).val = (idxs b (Shape.ofLane k)).toNat) → storeIdx (F := F) (e := .f32) x idxs v mask false h p = a)
      ∧ ((¬ ∃ k : Fin (d 0), mask (Shape.ofLane k) = 1 ∧ ∀ b, (p b).val = (idxs b (Shape.ofLane k)).toNat) → storeIdx (F := F) (e := .f32) x idxs v mask false h p = x p) := by
  obtain ⟨step, e, hy, hn⟩ : ∃ step : Vec F s .f32 → Fin (d 0) → Vec F s .f32,
      storeIdx (F := F) (e := .f32) x idxs v mask false h = (List.finRange (d 0)).foldl step x
        ∧ (∀ g k, (mask (Shape.ofLane k) = 1 ∧ ∀ b, (p b).val = (idxs b (Shape.ofLane k)).toNat) → step g k p = a)
        ∧ (∀ g k, (¬ (mask (Shape.ofLane k) = 1 ∧ ∀ b, (p b).val = (idxs b (Shape.ofLane k)).toNat)) → step g k p = g p) := by
    refine ⟨_, rfl, fun g k hk => ?_, fun g k hk => ?_⟩
    · dsimp only
      rw [if_pos hk.1]
      exact (if_pos hk.2).trans (ha k hk.1 hk.2)
    · dsimp only
      by_cases hm : mask (Shape.ofLane k) = 1
      · rw [if_pos hm]
        exact if_neg fun h' => hk ⟨hm, h'⟩
      · rw [if_neg hm]
  have H := foldl_point step _ p a hy hn (List.finRange (d 0)) x
  rw [e]
  exact ⟨fun ⟨k, hk⟩ => H.1 ⟨k, List.mem_finRange _, hk⟩, fun hn => H.2 fun ⟨k, _, hk⟩ => hn ⟨k, hk⟩⟩

section Scatter

variable [FloatOps F] [Named F]

/-- The new values of the sixteen lanes, from the gathered logits. -/
abbrev fixV (t : FVec F S16 .f32) : FVec F S16 .f32 :=
  subf (mulf t (broadcast S16 (Named.named κ "cos_m" 0x3F60A940#32)))
    (mulf (sqrt (maximumf (subf (broadcast S16 (Scalar.ofBits .f32 0x3F800000#32)) (mulf t t)) (broadcast S16 (Scalar.ofBits .f32 0x00000000#32))))
      (broadcast S16 (Scalar.ofBits .f32 0x3EF57744#32)))

/-- The masked scatter turns the logits' window into the window with the labels' elements replaced. -/
theorem scatter_win (X : S1024x100000.Idx → F .f32) (Lb : S1024.Idx → BitVec 32) {R C W : ℕ} (hR : R + 8 ≤ 1024) (hC : C + W ≤ 100000)
    (h h' : ∀ a x, ((![lane8, safeV (labVec Lb R) (BitVec.ofNat 32 C) (BitVec.ofNat 32 W)] : Fin 2 → IVec S16 32) a x).toNat < (S8 W).size a) :
    storeIdx (F := F) (e := .f32) (win W X R C) ![lane8, safeV (labVec Lb R) (BitVec.ofNat 32 C) (BitVec.ofNat 32 W)]
      (fixV (loadIdx (F := F) (e := .f32) (win W X R C) ![lane8, safeV (labVec Lb R) (BitVec.ofNat 32 C) (BitVec.ofNat 32 W)] h'))
      (maskV (labVec Lb R) (BitVec.ofNat 32 C) (BitVec.ofNat 32 W)) false h = win W (fixed X Lb) R C := by
  funext p
  have hp0 : (p 0).val < 8 := (p 0).isLt
  have hp1 : (p 1).val < W := (p 1).isLt
  have key : ∀ k : Fin 16, maskV (labVec Lb R) (BitVec.ofNat 32 C) (BitVec.ofNat 32 W) (ix1 k) = 1#1 →
      (∀ a, (p a).val = ((![lane8, safeV (labVec Lb R) (BitVec.ofNat 32 C) (BitVec.ofNat 32 W)] : Fin 2 → IVec S16 32) a (ix1 k)).toNat) →
      (labAt Lb (R + (p 0).val)).toNat = C + (p 1).val := by
    intro k hm hh
    have hk := (mask_iff (labVec Lb R) hC k).1 hm
    have e0 : (p 0).val = k.val % 8 := (hh 0).trans (lane8_toNat k)
    have e1 : (p 1).val = (safeV (labVec Lb R) (BitVec.ofNat 32 C) (BitVec.ofNat 32 W) (ix1 k)).toNat := hh 1
    rw [safe_ix, if_pos hm, loc_toNat _ hC hk.1] at e1
    have e2 : labVec Lb R (ix1 k) = labAt Lb (R + (p 0).val) := by
      show labAt Lb (R + k.val % 8) = _
      rw [e0]
    rw [e2] at e1 hk
    omega
  have hx : (ixA (R + (p 0).val) (C + (p 1).val) 0).val = R + (p 0).val := Nat.mod_eq_of_lt (by omega)
  have hy : (ixA (R + (p 0).val) (C + (p 1).val) 1).val = C + (p 1).val := Nat.mod_eq_of_lt (by omega)
  have hits := storeIdx_hits (win W X R C) ![lane8, safeV (labVec Lb R) (BitVec.ofNat 32 C) (BitVec.ofNat 32 W)]
    (fixV (loadIdx (F := F) (e := .f32) (win W X R C) ![lane8, safeV (labVec Lb R) (BitVec.ofNat 32 C) (BitVec.ofNat 32 W)] h'))
    (maskV (labVec Lb R) (BitVec.ofNat 32 C) (BitVec.ofNat 32 W)) h p (fv (X (ixA (R + (p 0).val) (C + (p 1).val)))) (fun k _ hh => by
      show fv (win W X R C (idxAt _ h' (Shape.ofLane k))) = _
      have : idxAt ![lane8, safeV (labVec Lb R) (BitVec.ofNat 32 C) (BitVec.ofNat 32 W)] h' (Shape.ofLane k) = p :=
        funext fun a => Fin.ext (hh a).symm
      rw [this]; rfl)
  show _ = fixed X Lb _
  unfold fixed
  rw [hx, hy]
  by_cases e : (labAt Lb (R + (p 0).val)).toNat = C + (p 1).val
  · rw [if_pos e]
    refine hits.1 ?_
    have hv : labVec Lb R (ix1 (⟨(p 0).val, by omega⟩ : Fin 16)) = labAt Lb (R + (p 0).val) := by
      show labAt Lb (R + (p 0).val % 8) = _
      rw [Nat.mod_eq_of_lt hp0]
    have hm : maskV (labVec Lb R) (BitVec.ofNat 32 C) (BitVec.ofNat 32 W) (ix1 (⟨(p 0).val, by omega⟩ : Fin 16)) = 1#1 :=
      (mask_iff (labVec Lb R) hC _).2 ⟨by rw [hv]; omega, hp0⟩
    refine ⟨(⟨(p 0).val, by omega⟩ : Fin 16), hm, fun a => ?_⟩
    match a with
    | 0 => exact ((lane8_toNat (⟨(p 0).val, by omega⟩ : Fin 16)).trans (Nat.mod_eq_of_lt hp0)).symm
    | 1 =>
      show _ = (safeV (labVec Lb R) (BitVec.ofNat 32 C) (BitVec.ofNat 32 W) (ix1 (⟨(p 0).val, by omega⟩ : Fin 16))).toNat
      rw [safe_ix, if_pos hm, loc_toNat _ hC (by rw [hv]; omega), hv]
      omega
  · rw [if_neg e]
    exact hits.2 fun ⟨k, hm, hh⟩ => e (key k ((congrArg _ (ofLane_eq k)).symm.trans hm) fun a => (hh a).trans (congrArg (fun y => ((![lane8, safeV (labVec Lb R) (BitVec.ofNat 32 C) (BitVec.ofNat 32 W)] : Fin 2 → IVec S16 32) a y).toNat) (ofLane_eq k)))

/-! ## The scaling, sixteen elements at a time -/

/-- `x` with its first `n` runs of sixteen elements scaled, in row-major order, a row being `T` runs. -/
def scaled {W : ℕ} (T n : ℕ) (x : (S8 W).Idx → F .f32) : (S8 W).Idx → F .f32 :=
  fun p => if (p 0).val * T + (p 1).val / 16 < n then FloatOps.mulf (x p) (sc64 F) else x p

theorem scaled_zero {W : ℕ} (T : ℕ) (x : (S8 W).Idx → F .f32) : scaled T 0 x = x := by
  funext p; unfold scaled; rw [if_neg (Nat.not_lt_zero _)]

/-- When all eight rows are done the buffer holds the output's window. -/
theorem scaled_all {W T : ℕ} (hW : W = 16 * T) (X : S1024x100000.Idx → F .f32) (Lb : S1024.Idx → BitVec 32) (R C : ℕ) :
    scaled T (8 * T) (win W (fixed X Lb) R C) = win W (outG X Lb) R C := by
  funext p
  unfold scaled
  have hp0 : (p 0).val < 8 := (p 0).isLt
  have hp1 : (p 1).val < W := (p 1).isLt
  rw [if_pos]
  · rfl
  · have h1 : (p 1).val / 16 < T := by omega
    have h2 : ((p 0).val + 1) * T ≤ 8 * T := Nat.mul_le_mul_right _ hp0
    rw [Nat.add_mul] at h2
    omega

end Scatter

end Cert.Proof.Arc

end
-- ==== Proof.Rows.lean ====
/-
  The scaling of a buffer, as a tile runs it: sixteen elements at a time, a row by one counted loop.
-/
module

public import proofs.«01_k».proof.Proof.Vals

@[expose] public section

noncomputable section

namespace Cert.Proof.Arc

open Cert.KernelIdeal Cert.KernelIdeal.Gen
open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Tactic

variable {F : FTy → Type}

local notation "𝕄" => MT nD τ sig (HIx 1) (Elt F) ℕ UU ℕ

section Rows

variable [FloatOps F] [Named F] (d : Dev nD) (L : grid0.Coords)

local notation "WP" => wp frame (wpE (defs₀ (F := F)) 𝒱₀ (thr d L) none) Set.univ

/-- The rectangle of sixteen elements of row `row` from column `16 k`. -/
theorem chunk_emb {W : ℕ} {off : Fin 2 → ℕ} {row k : ℕ} (hoff : off = ![row, 16 * k]) (inb : ∀ a, off a + S1x16.size a ≤ (S8 W).size a)
    (y : S1x16.Idx) : ((Rect.unit (s := S8 W) off S1x16.size inb).emb y 0).val = row
      ∧ ((Rect.unit (s := S8 W) off S1x16.size inb).emb y 1).val = 16 * k + (y 1).val := by
  subst hoff
  have h0 : (y 0).val < 1 := (y 0).isLt
  constructor
  · rw [Rect.emb_apply]
    show row + 1 * (y 0).val = row
    omega
  · rw [Rect.emb_apply]
    show 16 * k + 1 * (y 1).val = _
    omega

/-- One run of sixteen elements: loaded, scaled and stored back. -/
theorem wp_chunk {W T : ℕ} (b : Memref sig .scVector .vmem (S8 W) .f32) {off : Fin 2 → ℕ} {row k n : ℕ}
    (hoff : off = ![row, 16 * k]) (hk : k < T) (hn : n = row * T + k) (hW : W = 16 * T)
    {inb inb' inb'' : ∀ a, off a + S1x16.size a ≤ (S8 W).size a}
    {hl : b.view.LoadsAt (Rect.unit (s := S8 W) off S1x16.size inb).toLoadRect}
    {hl' : b.view.LoadsAt (Rect.unit (s := S8 W) off S1x16.size inb').toLoadRect}
    {c1 : S1x16.ShapeCasts S16} {c2 : S16.ShapeCasts S1x16}
    {hx : (b.access (Rect.unit (s := S8 W) off S1x16.size inb'')).Stores Finset.univ} {hm}
    (x : (S8 W).Idx → F .f32)
    {α : Type} {Q : α → sProp 𝕄} {kk : PUnit.{1} → TProg F L α} :
    buf (F := F) (e := .f32) d L b (scaled T n x) ⊢ iprop((buf (F := F) (e := .f32) d L b (scaled T (n + 1) x) -∗ WP (kk ⟨⟩) Q) -∗
      WP (Prog.lift (.load b (Rect.unit (s := S8 W) off S1x16.size inb).toLoadRect hl) >>= fun v =>
        Prog.lift (.load b (Rect.unit (s := S8 W) off S1x16.size inb').toLoadRect hl') >>= fun _ =>
        Prog.lift (.store b (Rect.unit (s := S8 W) off S1x16.size inb'')
          (shapeCast S1x16 (mulf (shapeCast S16 v c1) (broadcast S16 (Scalar.ofBits (F := F) .f32 0x42800000#32))) c2) Finset.univ hx hm) >>= kk) Q) := by
  iintro H Hk
  iapply (wp_ld d L b) $$ H
  iintro H
  iapply (wp_ld d L b) $$ H
  iintro H
  iapply (wp_st d L b (scaled T (n + 1) x) ?h1 ?h2) $$ H
  case h1 =>
    intro y
    obtain ⟨e0, e1⟩ := chunk_emb hoff inb y
    have hy : (y 1).val < 16 := (y 1).isLt
    have he : y = ix2 (0 : Fin 1) (y 1 : Fin 16) := by
      funext a
      match a with
      | 0 => exact Subsingleton.elim (α := Fin 1) _ _
      | 1 => rfl
    have hq : ((Rect.unit (s := S8 W) off S1x16.size inb).emb y 0).val * T + ((Rect.unit (s := S8 W) off S1x16.size inb).emb y 1).val / 16 = n := by
      rw [e0, e1, hn]; congr 1; omega
    have hr : shapeCast S1x16 (mulf (shapeCast S16 (fun i => scaled T n x ((Rect.unit (s := S8 W) off S1x16.size inb).emb i)) c1)
        (broadcast S16 (Scalar.ofBits (F := F) .f32 0x42800000#32))) c2 y
        = FloatOps.mulf (scaled T n x ((Rect.unit (s := S8 W) off S1x16.size inb).emb y)) (sc64 F) := by
      conv_lhs => rw [he]
      refine (shapeCast_a_1a_apply _ c2 _ _).trans ?_
      show FloatOps.mulf (shapeCast S16 _ c1 (ix1 (y 1 : Fin 16))) _ = _
      refine congrArg (fun z => FloatOps.mulf z _) ((shapeCast_1a_a_apply _ c1 _).trans ?_)
      exact congrArg (fun z => scaled T n x ((Rect.unit (s := S8 W) off S1x16.size inb).emb z)) he.symm
    refine Eq.trans ?_ hr.symm
    unfold scaled
    rw [if_pos (by omega), if_neg (by omega)]
  case h2 =>
    intro p hp
    unfold scaled
    by_cases h : (p 0).val * T + (p 1).val / 16 < n
    · rw [if_pos h, if_pos (by omega)]
    · rw [if_neg h]
      refine if_neg fun h' => hp ?_
      have hp1 : (p 1).val < W := (p 1).isLt
      have e : (p 0).val * T + (p 1).val / 16 = row * T + k := by omega
      have hd : (p 1).val / 16 < T := by omega
      have hT : 0 < T := by omega
      have e0 : (p 0).val = row := by
        have h1 := congrArg (· / T) e
        simp only [Nat.mul_comm _ T, Nat.mul_add_div hT, Nat.div_eq_of_lt hd, Nat.div_eq_of_lt hk, Nat.add_zero] at h1
        exact h1
      have e1 : (p 1).val / 16 = k := by rw [e0] at e; omega
      subst hoff
      refine Rect.mem_set_unit.2 fun a => ?_
      match a with
      | 0 =>
        show row ≤ (p 0).val ∧ (p 0).val < row + 1
        omega
      | 1 =>
        show 16 * k ≤ (p 1).val ∧ (p 1).val < 16 * k + 16
        omega
  iexact Hk

/-- One row: the counted loop that scales its `T` runs of sixteen elements. -/
theorem wp_row {W T : ℕ} (b : Memref sig .scVector .vmem (S8 W) .f32) (l : Scf.Loop 32) (ok : l.OK) (row : ℕ)
    (off : Fin l.trips → Fin 2 → ℕ)
    (hT : l.trips = T) (hoff : ∀ k : Fin l.trips, off k = ![row, 16 * k.val]) (hW : W = 16 * T)
    {inb inb' inb'' : ∀ k, ∀ a, off k a + S1x16.size a ≤ (S8 W).size a}
    {hl : ∀ k, b.view.LoadsAt (Rect.unit (s := S8 W) (off k) S1x16.size (inb k)).toLoadRect}
    {hl' : ∀ k, b.view.LoadsAt (Rect.unit (s := S8 W) (off k) S1x16.size (inb' k)).toLoadRect}
    {c1 : S1x16.ShapeCasts S16} {c2 : S16.ShapeCasts S1x16}
    {hx : ∀ k, (b.access (Rect.unit (s := S8 W) (off k) S1x16.size (inb'' k))).Stores Finset.univ} {hm : ∀ k : Fin l.trips, _}
    (x : (S8 W).Idx → F .f32)
    {α : Type} {Q : α → sProp 𝕄} {kk : PUnit.{1} → TProg F L α} :
    buf (F := F) (e := .f32) d L b (scaled T (row * T) x) ⊢ iprop((buf (F := F) (e := .f32) d L b (scaled T ((row + 1) * T) x) -∗ WP (kk ⟨⟩) Q) -∗
      WP (Scf.Loop.for l ok (⟨⟩ : PUnit.{1}) (fun k _ =>
        Prog.lift (.load b (Rect.unit (s := S8 W) (off k) S1x16.size (inb k)).toLoadRect (hl k)) >>= fun v =>
        Prog.lift (.load b (Rect.unit (s := S8 W) (off k) S1x16.size (inb' k)).toLoadRect (hl' k)) >>= fun _ =>
        Prog.lift (.store b (Rect.unit (s := S8 W) (off k) S1x16.size (inb'' k))
          (shapeCast S1x16 (mulf (shapeCast S16 v c1) (broadcast S16 (Scalar.ofBits (F := F) .f32 0x42800000#32))) c2) Finset.univ (hx k) (hm k)) >>= fun _ =>
        pure ⟨⟩) >>= kk) Q) := by
  iintro H Hk
  iapply (Scf.wp_for_bind frame (wpE (defs₀ (F := F)) 𝒱₀ (thr d L) none) Set.univ l.lb l.ub l.st ok (⟨⟩ : PUnit.{1}) _
    (fun n _ => buf (F := F) (e := .f32) d L b (scaled T (row * T + n) x)) ?hb) $$ [H]
  case hb =>
    intro k acc
    iintro H
    iapply (wp_chunk d L b (hoff k) (hT ▸ k.isLt) rfl hW x) $$ H
    iintro H
    rw [Prog.pure_eq_ret, wp_ret]
    imodintro
    iexact H
  · iexact H
  iintro %acc H
  have e : (row + 1) * T = row * T + l.trips := by rw [Nat.add_mul, hT, Nat.one_mul]
  rw [e]
  iapply Hk
  iexact H

end Rows

end Cert.Proof.Arc

end
-- ==== Proof.Slab.lean ====
/-
  One slab in a buffer: the labels' lookup, the label's element's replacement, and the words that say where the slab lies.
-/
module

public import proofs.«01_k».proof.Proof.Rows

@[expose] public section

noncomputable section

namespace Cert.Proof.Arc

open Cert.KernelIdeal Cert.KernelIdeal.Gen
open Idealize.ShloMosaic
open Idealize.ShloMosaic.ValueIdx

variable {F : FTy → Type}

/-- The tile's thirty-two labels, from row `R`. -/
def labWin (Lb : S1024.Idx → BitVec 32) (R : ℕ) : S32.Idx → BitVec 32 := fun q => labAt Lb (R + (q 0).val)

/-- The index vector of a band's labels. -/
theorem bandIdx_toNat {w : BitVec 32} {bd : ℕ} (hw : w = BitVec.ofNat 32 (8 * bd)) (hb : bd < 4) (j : Fin 16) :
    (addi (broadcast S16 w) lane8 (ix1 j)).toNat = 8 * bd + j.val % 8 := by
  show (w + lane8 (ix1 j)).toNat = _
  rw [lane8_ix, hw, ← BitVec.ofNat_add, BitVec.toNat_ofNat]
  exact Nat.mod_eq_of_lt (by omega)

theorem bandIdx_lt {w : BitVec 32} {bd : ℕ} (hw : w = BitVec.ofNat 32 (8 * bd)) (hb : bd < 4) :
    ∀ a y, ((![addi (broadcast S16 w) lane8] : Fin 1 → IVec S16 32) a y).toNat < S32.size a := by
  intro a y
  obtain ⟨j, rfl⟩ := eq_lane y
  match a with
  | 0 =>
    show (addi (broadcast S16 w) lane8 (ix1 j)).toNat < 32
    rw [bandIdx_toNat hw hb]; omega

/-- The labels of a band, looked up. -/
theorem band_labels (Lb : S1024.Idx → BitVec 32) (R : ℕ) {w : BitVec 32} {bd : ℕ} (hw : w = BitVec.ofNat 32 (8 * bd)) (hb : bd < 4)
    (h : ∀ a y, ((![addi (broadcast S16 w) lane8] : Fin 1 → IVec S16 32) a y).toNat < S32.size a) :
    loadIdx (F := F) (e := .i32) (labWin Lb R) ![addi (broadcast S16 w) lane8] h = labVec Lb (R + 8 * bd) := by
  funext y
  obtain ⟨j, rfl⟩ := eq_lane y
  show labAt Lb (R + (addi (broadcast S16 w) lane8 (ix1 j)).toNat) = labAt Lb (R + 8 * bd + j.val % 8)
  rw [bandIdx_toNat hw hb, Nat.add_assoc]

/-! ## The slabs' words -/

/-- Slab `4 t + b`'s word, from the trip's. -/
abbrev slabW (t : ℕ) (b : BitVec 32) : BitVec 32 := Scalar.addi (Scalar.muli (Scf.iv 0#32 1#32 t) 4#32) b

theorem slabW_band : ∀ (t : Fin 32) (b : Fin 4), Scalar.muli (Scalar.shrsi (slabW t (BitVec.ofNat 32 b)) 5#32) 8#32 = BitVec.ofNat 32 (8 * (t.val / 8)) := by
  decide +kernel

theorem slabW_col : ∀ (t : Fin 32) (b : Fin 4), Scalar.muli (Scalar.andi (slabW t (BitVec.ofNat 32 b)) 31#32) 3072#32 = BitVec.ofNat 32 (3072 * (4 * (t.val % 8) + b.val)) := by
  decide +kernel

/-- A band's word in the last columns' loop. -/
theorem bandW : ∀ t : Fin 4, Scalar.muli (Scf.iv 0#32 1#32 t.val) 8#32 = BitVec.ofNat 32 (8 * t.val) := by decide +kernel

end Cert.Proof.Arc

end
-- ==== Proof.Copies.lean ====
/-
  The arrays' pieces, and the copies between a piece and a buffer: their starts and their waits.
-/
module

public import proofs.«01_k».proof.Proof.Slab

@[expose] public section

noncomputable section

namespace Cert.Proof.Arc

open Cert.KernelIdeal Cert.KernelIdeal.Gen
open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Tactic

variable {F : FTy → Type}

local notation "𝕄" => MT nD τ sig (HIx 1) (Elt F) ℕ UU ℕ

/-- The piece of eight rows from `R` and `W` columns from `C`. -/
def pcs (R C W : ℕ) : Finset S1024x100000.Idx :=
  Finset.univ.filter fun i => (R ≤ (i 0).val ∧ (i 0).val < R + 8) ∧ C ≤ (i 1).val ∧ (i 1).val < C + W

theorem mem_pcs {R C W : ℕ} {i : S1024x100000.Idx} :
    i ∈ pcs R C W ↔ (R ≤ (i 0).val ∧ (i 0).val < R + 8) ∧ C ≤ (i 1).val ∧ (i 1).val < C + W := by
  unfold pcs; rw [Finset.mem_filter]; exact ⟨fun h => h.2, fun h => ⟨Finset.mem_univ _, h⟩⟩

/-- The rectangle of a piece. -/
theorem piece_rect {W : ℕ} {off : Fin 2 → ℕ} {R C : ℕ} (hoff : off = ![R, C])
    (inb : ∀ a, off a + (S8 W).size a ≤ S1024x100000.size a) :
    (Rect.unit (s := S1024x100000) off (S8 W).size inb).set = pcs R C W := by
  subst hoff
  ext i
  rw [Rect.mem_set_unit, mem_pcs]
  constructor
  · exact fun h => ⟨h 0, h 1⟩
  · intro h a
    match a with
    | 0 => exact h.1
    | 1 => exact h.2

theorem piece_emb {W : ℕ} {off : Fin 2 → ℕ} {R C : ℕ} (hoff : off = ![R, C])
    (inb : ∀ a, off a + (S8 W).size a ≤ S1024x100000.size a) (p : (S8 W).Idx) :
    (Rect.unit (s := S1024x100000) off (S8 W).size inb).emb p = ixA (R + (p 0).val) (C + (p 1).val) := by
  subst hoff
  have h0 : R + 8 ≤ 1024 := inb 0
  have h1 : C + W ≤ 100000 := inb 1
  have hp0 : (p 0).val < 8 := (p 0).isLt
  have hp1 : (p 1).val < W := (p 1).isLt
  funext a
  match a with
  | 0 =>
    refine Fin.ext ?_
    rw [Rect.emb_apply]
    show R + 1 * (p 0).val = (R + (p 0).val) % 1024
    rw [Nat.mod_eq_of_lt (by omega), Nat.one_mul]
  | 1 =>
    refine Fin.ext ?_
    rw [Rect.emb_apply]
    show C + 1 * (p 1).val = (C + (p 1).val) % 100000
    rw [Nat.mod_eq_of_lt (by omega), Nat.one_mul]

section Copies

variable [FloatOps F] [Named F] (d : Dev nD) (L : grid0.Coords)

local notation "WP" => wp frame (wpE (defs₀ (F := F)) 𝒱₀ (thr d L) none) Set.univ

/-- The units a copy into buffer `b` counts on its semaphore. -/
abbrev nIn {W : ℕ} (b : Memref sig .scVector .vmem (S8 W) .f32) : ℕ := b.view.dmaCredit
/-- The units a copy of a piece of the result counts. -/
abbrev nOut (W : ℕ) : ℕ := (main_v0_scv : Ref sig .scVector).dmaCredit (S8 W) .f32

/-- A copy into a buffer, under way: it brings the logits' window and gives the piece back. -/
def inFl (X : Buf (Elt F) (xLoc d)) {W : ℕ} (b : Memref sig .scVector .vmem (S8 W) .f32) (sm : DmaSem sig) (R C : ℕ) : sProp 𝕄 :=
  Flight EC (thr d L) (.dma sm) none (nIn b)
    iprop(buf (F := F) (e := .f32) d L b (win W X R C) ∗ xLoc d ↦[pcs R C W]{fullShare} X)

/-- A copy out of a buffer, under way: it leaves the output's piece and gives the buffer back. -/
def outFl (G : Buf (Elt F) (oLoc d)) {W : ℕ} (b : Memref sig .scVector .vmem (S8 W) .f32) (sm : DmaSem sig) (R C : ℕ) : sProp 𝕄 :=
  Flight EC (thr d L) (.dma sm) none (nOut W)
    iprop((oLoc d ↦[pcs R C W]{fullShare} G) ∗ buf (F := F) (e := .f32) d L b (win W G R C))

/-- What the tile owes, its waits so far being those of `W₀` and its own copies'. -/
def ow (O : CellTallies nD τ sig (HIx 1)) (W₀ : Waits sig (HIx 1)) : sProp 𝕄 :=
  iprop(∃ W', ⌜∀ p ∈ W', p ∈ W₀ ∨ p.2 = none⌝ ∗ owes (thr d L) O W')

/-- The start of a copy into a buffer. -/
theorem wp_in {W : ℕ} (hN : 0 < (S8 W).numel) (b : Memref sig .scVector .vmem (S8 W) .f32) (sm : DmaSem sig) (X : Buf (Elt F) (xLoc d))
    {off : Fin 2 → ℕ} {R C : ℕ} (hoff : off = ![R, C]) {inb : ∀ a, off a + (S8 W).size a ≤ S1024x100000.size a}
    {hs : ∀ a, (Rect.unit (s := S1024x100000) off (S8 W).size inb).stride a = 1}
    {hsrc : (xV.slice (Rect.unit (s := S1024x100000) off (S8 W).size inb) hs).view.WordExact} {hdst : b.view.WordExact}
    {hsem : DmaTarget.Typed (nD := nD) .hbm (.dma sm) (.here b : DmaTarget nD τ sig (Proc.scVector (cV L) (jV L)) .vmem (S8 W) .f32)}
    {α : Type} {Q : α → sProp 𝕄} {k : PUnit.{1} → TProg F L α} :
    iprop((xLoc d ↦[pcs R C W]{fullShare} X) ∗ (∃ y, buf (F := F) (e := .f32) d L b y) ∗ semVal (thr d L, .dma sm) 0)
      ⊢ iprop((inFl d L X b sm R C -∗ WP (k ⟨⟩) Q) -∗
        WP (Prog.lift (.enqueueDma (xV.slice (Rect.unit (s := S1024x100000) off (S8 W).size inb) hs) (.here b) (.dma sm) hsrc hdst hsem) >>= k) Q) := by
  have hset : (xV.slice (Rect.unit (s := S1024x100000) off (S8 W).size inb) hs).view.set = pcs R C W := by
    rw [← piece_rect hoff inb]
    show ((View.whole (main_arg0_scv : Ref sig .scVector)).slice _).set = _
    rw [View.set_slice]; exact Finset.map_refl
  rw [Prog.bind_lift]
  unfold buf owns
  iintro ⟨Hx, ⟨%y, %f, %hf, Hb⟩, Hv⟩ Hk
  iapply (wp_dmaLocal EC 𝒱₀ (thr d L) none (src := xV.slice (Rect.unit (s := S1024x100000) off (S8 W).size inb) hs) (dst := b)
    (q := fullShare) (fs := X) (Sd := b.view.set) (fd := f) none (nIn b) rfl (View.dmaCredit_pos _ ?_) (Finset.Subset.refl _)) $$ [Hx Hb Hv]
  · exact hN
  · isplitl [Hx]
    · rw [hset]; iexact Hx
    isplitl [Hb]; · iexact Hb
    iexact Hv
  iintro Hf
  iapply Hk
  unfold inFl
  iapply (Flight_mono EC (thr d L) ?_) $$ Hf
  unfold buf owns
  iintro ⟨Hb, Hx⟩
  isplitl [Hb]
  · iexists _; isplitr; swap; · iexact Hb
    ipureintro
    rw [View.read_write_univ]
    funext p
    show X _ = X _
    congr 1
    exact piece_emb hoff inb p
  · rw [hset]; iexact Hx

/-- The start of a copy out of a buffer. -/
theorem wp_out {W : ℕ} (hN : 0 < (S8 W).numel) (b : Memref sig .scVector .vmem (S8 W) .f32) (sm : DmaSem sig) (G : Buf (Elt F) (oLoc d))
    {off : Fin 2 → ℕ} {R C : ℕ} (hoff : off = ![R, C]) {inb : ∀ a, off a + (S8 W).size a ≤ S1024x100000.size a}
    {hs : ∀ a, (Rect.unit (s := S1024x100000) off (S8 W).size inb).stride a = 1}
    {hdst : (oV.slice (Rect.unit (s := S1024x100000) off (S8 W).size inb) hs).view.WordExact} {hsrc : b.view.WordExact}
    {hsem : DmaTarget.Typed (nD := nD) .vmem (.dma sm) (.here (oV.slice (Rect.unit (s := S1024x100000) off (S8 W).size inb) hs) : DmaTarget nD τ sig (Proc.scVector (cV L) (jV L)) .hbm (S8 W) .f32)}
    {α : Type} {Q : α → sProp 𝕄} {k : PUnit.{1} → TProg F L α} :
    iprop(buf (F := F) (e := .f32) d L b (win W G R C) ∗ (∃ f, oLoc d ↦[pcs R C W]{fullShare} f) ∗ semVal (thr d L, .dma sm) 0)
      ⊢ iprop((outFl d L G b sm R C -∗ WP (k ⟨⟩) Q) -∗
        WP (Prog.lift (.enqueueDma b (.here (oV.slice (Rect.unit (s := S1024x100000) off (S8 W).size inb) hs)) (.dma sm) hsrc hdst hsem) >>= k) Q) := by
  have hset : (oV.slice (Rect.unit (s := S1024x100000) off (S8 W).size inb) hs).view.set = pcs R C W := by
    rw [← piece_rect hoff inb]
    show ((View.whole (main_v0_scv : Ref sig .scVector)).slice _).set = _
    rw [View.set_slice]; exact Finset.map_refl
  rw [Prog.bind_lift]
  unfold buf owns
  iintro ⟨⟨%f, %hf, Hb⟩, ⟨%g, Ho⟩, Hv⟩ Hk
  iapply (wp_dmaLocal EC 𝒱₀ (thr d L) none (src := b) (dst := oV.slice (Rect.unit (s := S1024x100000) off (S8 W).size inb) hs)
    (q := fullShare) (fs := f) (Sd := pcs R C W) (fd := g) none (nOut W) rfl
    (View.dmaCredit_pos (oV.slice (Rect.unit (s := S1024x100000) off (S8 W).size inb) hs).view hN) hset.le) $$ [Ho Hb Hv]
  · isplitl [Hb]; · iexact Hb
    isplitl [Ho]; · iexact Ho
    iexact Hv
  iintro Hf
  iapply Hk
  unfold outFl
  iapply (Flight_mono EC (thr d L) ?_) $$ Hf
  unfold buf owns
  iintro ⟨Ho, Hb⟩
  isplitl [Ho]
  · iapply (Entails.of_eq (pointsTo_congr (g := G) ?_)) $$ Ho
    intro i hi
    rw [← hset] at hi
    obtain ⟨p, -, rfl⟩ := Finset.mem_map.1 hi
    refine (congrFun (View.read_write_univ (v := (oV.slice (Rect.unit (s := S1024x100000) off (S8 W).size inb) hs).view) (Val := Elt F) g _) p).trans ?_
    refine (congrFun hf p).trans ?_
    exact congrArg G (piece_emb hoff inb p).symm
  · iexists f; isplitr; · ipureintro; exact hf
    iexact Hb

/-- The wait for a copy into a buffer. -/
theorem wp_inW {W : ℕ} (b : Memref sig .scVector .vmem (S8 W) .f32) (sm : DmaSem sig) (X : Buf (Elt F) (xLoc d)) (R C : ℕ)
    {sp : Space} {s' : Shape} {e' : EltTy} {srcw : Memref sig .scVector sp s' e'} {hsrc : srcw.view.WordExact} {hdst : b.view.WordExact}
    {O : CellTallies nD τ sig (HIx 1)} {W₀ : Waits sig (HIx 1)}
    {α : Type} {Q : α → sProp 𝕄} {k : PUnit.{1} → TProg F L α} :
    iprop(inFl d L X b sm R C ∗ ow d L O W₀ ∗ MayWaits (thr d L) (none : HIx 1) O)
      ⊢ iprop((iprop((buf (F := F) (e := .f32) d L b (win W X R C) ∗ xLoc d ↦[pcs R C W]{fullShare} X) ∗ semVal (thr d L, .dma sm) 0
            ∗ ow d L O W₀) -∗ WP (k ⟨⟩) Q) -∗
        WP (Prog.lift (.waitDma2 sm srcw b hsrc hdst) >>= k) Q) := by
  rw [Prog.bind_lift]
  unfold inFl
  unfold ow
  iintro ⟨Hf, ⟨%W', %hW', HO⟩, Hm⟩ Hk
  iapply (wp_waitLocalO EC 𝒱₀ (thr d L) none none rfl) $$ [Hf HO Hm]
  · isplitl [Hf]; · iexact Hf
    isplitl [HO]; · iexact HO
    iapply (MayWaits.elim (SemLoc.dma sm)) $$ Hm
  iintro ⟨HD, Hv, HO⟩
  iapply Hk
  isplitl [HD]; · iexact HD
  isplitl [Hv]; · iexact Hv
  iexists _; isplitr; swap; · iexact HO
  ipureintro
  intro p hp
  rcases Finset.mem_insert.1 hp with rfl | hp
  · exact Or.inr rfl
  · exact hW' p hp

/-- The wait for a copy out of a buffer. -/
theorem wp_outW {W : ℕ} (b : Memref sig .scVector .vmem (S8 W) .f32) (sm : DmaSem sig) (G : Buf (Elt F) (oLoc d)) (R C : ℕ)
    {off : Fin 2 → ℕ} {inb : ∀ a, off a + (S8 W).size a ≤ S1024x100000.size a}
    {hs : ∀ a, (Rect.unit (s := S1024x100000) off (S8 W).size inb).stride a = 1}
    {sp : Space} {s' : Shape} {e' : EltTy} {srcw : Memref sig .scVector sp s' e'} {hsrc : srcw.view.WordExact}
    {hdst : (oV.slice (Rect.unit (s := S1024x100000) off (S8 W).size inb) hs).view.WordExact}
    {O : CellTallies nD τ sig (HIx 1)} {W₀ : Waits sig (HIx 1)}
    {α : Type} {Q : α → sProp 𝕄} {k : PUnit.{1} → TProg F L α} :
    iprop(outFl d L G b sm R C ∗ ow d L O W₀ ∗ MayWaits (thr d L) (none : HIx 1) O)
      ⊢ iprop((iprop(((oLoc d ↦[pcs R C W]{fullShare} G) ∗ buf (F := F) (e := .f32) d L b (win W G R C)) ∗ semVal (thr d L, .dma sm) 0
            ∗ ow d L O W₀) -∗ WP (k ⟨⟩) Q) -∗
        WP (Prog.lift (.waitDma2 sm srcw (oV.slice (Rect.unit (s := S1024x100000) off (S8 W).size inb) hs) hsrc hdst) >>= k) Q) := by
  rw [Prog.bind_lift]
  unfold outFl
  unfold ow
  iintro ⟨Hf, ⟨%W', %hW', HO⟩, Hm⟩ Hk
  iapply (wp_waitLocalO EC 𝒱₀ (thr d L) none none rfl) $$ [Hf HO Hm]
  · isplitl [Hf]; · iexact Hf
    isplitl [HO]; · iexact HO
    iapply (MayWaits.elim (SemLoc.dma sm)) $$ Hm
  iintro ⟨HD, Hv, HO⟩
  iapply Hk
  isplitl [HD]; · iexact HD
  isplitl [Hv]; · iexact Hv
  iexists _; isplitr; swap; · iexact HO
  ipureintro
  intro p hp
  rcases Finset.mem_insert.1 hp with rfl | hp
  · exact Or.inr rfl
  · exact hW' p hp

end Copies

end Cert.Proof.Arc

end
-- ==== Proof.Offs.lean ====
/-
  Where each copy of the ring starts, and when each of the trip's conditions holds: one check over the grid and the trips.
-/
module

public import proofs.«01_k».proof.Proof.Copies

@[expose] public section

noncomputable section

namespace Cert.Proof.Arc

open Cert.KernelIdeal Cert.KernelIdeal.Gen
open Idealize.ShloMosaic

/-- The tile's first row. -/
def R0 (L : grid0.Coords) : ℕ := 64 * (L 1).val + 32 * (L 0).val

/-- Slab `g`'s first row and column. -/
def gR (L : grid0.Coords) (g : ℕ) : ℕ := R0 L + 8 * (g / 32)
def gC (g : ℕ) : ℕ := 3072 * (g % 32)

theorem R0_le : ∀ L : grid0.Coords, R0 L + 32 ≤ 1024 := by decide +kernel

theorem trips1 : k0_t1_loop.trips = 32 := by decide +kernel
theorem trips34 : k0_t34_loop.trips = 4 := by decide +kernel

theorem off1_eq : ∀ L : grid0.Coords, k0_off1 L = ![R0 L] := by decide +kernel
theorem off2_eq : ∀ L : grid0.Coords, k0_off2 L = ![gR L 0, gC 0] := by decide +kernel
theorem off3_eq : ∀ L : grid0.Coords, k0_off3 L = ![gR L 1, gC 1] := by decide +kernel
theorem off4_eq : ∀ L : grid0.Coords, k0_off4 L = ![gR L 2, gC 2] := by decide +kernel
theorem off14_0 : ∀ (L : grid0.Coords) (t : Fin k0_t1_loop.trips), k0_off14 L t 0#32 = ![gR L (4 * t.val), gC (4 * t.val)] := by decide +kernel
theorem off16_eq : ∀ (L : grid0.Coords) (t : Fin k0_t1_loop.trips), k0_off16 L t = ![gR L (4 * t.val + 3), gC (4 * t.val + 3)] := by decide +kernel
theorem off25_1 : ∀ (L : grid0.Coords) (t : Fin k0_t1_loop.trips), k0_off25 L t 1#32 = ![gR L (4 * t.val + 1), gC (4 * t.val + 1)] := by decide +kernel
theorem off27_eq : ∀ (L : grid0.Coords) (t : Fin k0_t1_loop.trips), k0_cond3 t = 1#1 → k0_off27 L t = ![gR L (4 * t.val + 4), gC (4 * t.val + 4)] := by decide +kernel
theorem off36_2 : ∀ (L : grid0.Coords) (t : Fin k0_t1_loop.trips), k0_off36 L t 2#32 = ![gR L (4 * t.val + 2), gC (4 * t.val + 2)] := by decide +kernel
theorem off38_eq : ∀ (L : grid0.Coords) (t : Fin k0_t1_loop.trips), k0_cond5 t = 1#1 → k0_off38 L t = ![gR L (4 * t.val + 5), gC (4 * t.val + 5)] := by decide +kernel
theorem off47_eq : ∀ (L : grid0.Coords) (t : Fin k0_t1_loop.trips), k0_off47 L t = ![gR L (4 * t.val + 3), gC (4 * t.val + 3)] := by decide +kernel
theorem off49_eq : ∀ (L : grid0.Coords) (t : Fin k0_t1_loop.trips), k0_cond7 t = 1#1 → k0_off49 L t = ![gR L (4 * t.val + 6), gC (4 * t.val + 6)] := by decide +kernel

theorem cond1_eq : ∀ t : Fin k0_t1_loop.trips, k0_cond1 t = 1#1 := by decide +kernel
theorem cond2_iff : ∀ t : Fin k0_t1_loop.trips, k0_cond2 t = 1#1 ↔ 1 ≤ t.val := by decide +kernel
theorem cond3_iff : ∀ t : Fin k0_t1_loop.trips, k0_cond3 t = 1#1 ↔ t.val < 31 := by decide +kernel
theorem cond4_eq : ∀ t : Fin k0_t1_loop.trips, k0_cond4 t = 1#1 := by decide +kernel
theorem cond5_iff : ∀ t : Fin k0_t1_loop.trips, k0_cond5 t = 1#1 ↔ t.val < 31 := by decide +kernel
theorem cond6_eq : ∀ t : Fin k0_t1_loop.trips, k0_cond6 t = 1#1 := by decide +kernel
theorem cond7_iff : ∀ t : Fin k0_t1_loop.trips, k0_cond7 t = 1#1 ↔ t.val < 31 := by decide +kernel
theorem cond8_eq : ∀ t : Fin k0_t1_loop.trips, k0_cond8 t = 1#1 := by decide +kernel

theorem off54_eq : ∀ (L : grid0.Coords) (t : Fin k0_t34_loop.trips), k0_off54 L t = ![R0 L + 8 * t.val, 98304] := by decide +kernel
theorem off63_eq : ∀ (L : grid0.Coords) (t : Fin k0_t34_loop.trips), k0_off63 L t = ![R0 L + 8 * t.val, 98304] := by decide +kernel
theorem off64_eq : ∀ (L : grid0.Coords) (t : Fin k0_t34_loop.trips), k0_off64 L t = ![R0 L + 8 * t.val, 99968] := by decide +kernel
theorem off65_eq : ∀ (L : grid0.Coords) (t : Fin k0_t34_loop.trips), k0_off65 L t = ![R0 L + 8 * t.val, 99968] := by decide +kernel

end Cert.Proof.Arc

end
-- ==== Proof.Steps.lean ====
module

public import proofs.«01_k».proof.Proof.Offs

@[expose] public section

noncomputable section

namespace Cert.Proof.Arc

open Cert.KernelIdeal Cert.KernelIdeal.Gen
open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Tactic

variable {F : FTy → Type}

local notation "𝕄" => MT nD τ sig (HIx 1) (Elt F) ℕ UU ℕ

/-- The tile's first row, as the word the kernel computes. -/
abbrev rowW (L : grid0.Coords) : BitVec 32 := Scalar.muli (Scalar.addi (Scalar.muli (BitVec.ofNat 32 (L 1).val) 2#32) (BitVec.ofNat 32 (L 0).val)) 32#32

/-- A slab's rows and columns are the array's. -/
theorem slab_in (L : grid0.Coords) {g : ℕ} (hg : g < 128) : gR L g + 8 ≤ 1024 ∧ gC g + 3072 ≤ 100000 := by
  have := R0_le L
  unfold gR gC
  omega

/-- The row a slab's band starts at, from the trip. -/
theorem gR_trip (L : grid0.Coords) (t : Fin 32) (b : Fin 4) : gR L (4 * t.val + b.val) = R0 L + 8 * (t.val / 8) := by
  unfold gR; omega

/-- A slab's column word. -/
theorem gC_trip (t : Fin 32) (b : Fin 4) : Scalar.muli (Scalar.andi (slabW t.val (BitVec.ofNat 32 b)) 31#32) 3072#32 = BitVec.ofNat 32 (gC (4 * t.val + b.val)) := by
  rw [slabW_col t b]; unfold gC
  congr 2; omega

section Steps

variable [FloatOps F] [Named F] (d : Dev nD) (L : grid0.Coords)

local notation "WP" => wp frame (wpE (defs₀ (F := F)) 𝒱₀ (thr d L) none) Set.univ

/-- The lookup of a band's labels. -/
theorem wp_labels (Lb : S1024.Idx → BitVec 32) (R : ℕ) {w : BitVec 32} {bd : ℕ} (hw : w = BitVec.ofNat 32 (8 * bd)) (hb : bd < 4)
    {h : ∀ a y, ((![addi (broadcast S16 w) lane8] : Fin 1 → IVec S16 32) a y).toNat < S32.size a} {hl}
    {α : Type} {Q : α → sProp 𝕄} {k : _ → TProg F L α} :
    buf (F := F) (e := .i32) d L bL (labWin Lb R) ⊢ iprop((buf (F := F) (e := .i32) d L bL (labWin Lb R) -∗ WP (k (labVec Lb (R + 8 * bd))) Q)
      -∗ WP (SparseCore.vectorLoadIdx bL ![addi (broadcast S16 w) lane8] h hl >>= k) Q) := by
  rw [← band_labels (F := F) Lb R hw hb h]
  exact wp_gather d L bL

/-- The columns looked up are the buffer's. -/
theorem idx_ok (lab : IVec S16 32) {c0 w : BitVec 32} {C W : ℕ} (h0 : c0 = BitVec.ofNat 32 C) (hw : w = BitVec.ofNat 32 W)
    (hC : C + W ≤ 100000) (hW : 0 < W) :
    ∀ a x, ((![lane8, safeV lab c0 w] : Fin 2 → IVec S16 32) a x).toNat < (S8 W).size a := by
  subst h0 hw
  exact idx_lt lab hC hW

/-- The masked scatter of the labels' new values. -/
theorem wp_fix {W : ℕ} (b : Memref sig .scVector .vmem (S8 W) .f32) (X : S1024x100000.Idx → F .f32) (Lb : S1024.Idx → BitVec 32) {R C : ℕ}
    {c0 w : BitVec 32} (h0 : c0 = BitVec.ofNat 32 C) (hw : w = BitVec.ofNat 32 W) (hR : R + 8 ≤ 1024) (hC : C + W ≤ 100000)
    {h h' : ∀ a x, ((![lane8, safeV (labVec Lb R) c0 w] : Fin 2 → IVec S16 32) a x).toNat < (S8 W).size a} {hs}
    {α : Type} {Q : α → sProp 𝕄} {k : PUnit.{1} → TProg F L α} :
    buf (F := F) (e := .f32) d L b (win W X R C) ⊢ iprop((buf (F := F) (e := .f32) d L b (win W (fixed X Lb) R C) -∗ WP (k ⟨⟩) Q)
      -∗ WP (SparseCore.vectorStoreIdx b ![lane8, safeV (labVec Lb R) c0 w]
          (fixV (loadIdx (F := F) (e := .f32) (win W X R C) ![lane8, safeV (labVec Lb R) c0 w] h'))
          (maskV (labVec Lb R) c0 w) false h hs >>= k) Q) := by
  subst h0 hw
  exact wp_scatter d L b (scatter_win X Lb hR hC h h')

end Steps

end Cert.Proof.Arc

end
-- ==== Proof.State.lean ====
module

public import proofs.«01_k».proof.Proof.Steps

@[expose] public section

noncomputable section

namespace Cert.Proof.Arc

open Cert.KernelIdeal Cert.KernelIdeal.Gen
open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Tactic

variable {F : FTy → Type}

local notation "𝕄" => MT nD τ sig (HIx 1) (Elt F) ℕ UU ℕ

section Part

variable [FloatOps F] [Named F] (d : Dev nD) (L : grid0.Coords)

local notation "WP" => wp frame (wpE (defs₀ (F := F)) 𝒱₀ (thr d L) none) Set.univ

/-- Slab `k`'s piece of the logits, when there is such a slab. -/
def xp (X : Buf (Elt F) (xLoc d)) (k : ℕ) : sProp 𝕄 := if k < 128 then iprop(xLoc d ↦[pcs (gR L k) (gC k) 3072]{fullShare} X) else iprop(emp)

/-- Slab `k`'s piece of the result, not written yet. -/
def ot (k : ℕ) : sProp 𝕄 := iprop(∃ f : Buf (Elt F) (oLoc d), oLoc d ↦[pcs (gR L k) (gC k) 3072]{fullShare} f)

/-- Slab `k - 1`'s piece of the result, written, when it is one of the first 124. -/
def oq (G : Buf (Elt F) (oLoc d)) (k : ℕ) : sProp 𝕄 :=
  if 1 ≤ k ∧ k ≤ 124 then iprop(oLoc d ↦[pcs (gR L (k - 1)) (gC (k - 1)) 3072]{fullShare} G) else iprop(emp)

/-- A buffer at the start of trip `t`: slab `g`'s logits on their way in, or, after the last trip, slab `g - 4`'s results on their way out. -/
def St (X G : S1024x100000.Idx → F .f32) (b : Memref sig .scVector .vmem (S8 3072) .f32) (smI smO : DmaSem sig) (t g : ℕ) : sProp 𝕄 :=
  if t < 32 then iprop(inFl d L X b smI (gR L g) (gC g) ∗ semVal (thr d L, .dma smO) 0)
  else iprop(outFl d L G b smO (gR L (g - 4)) (gC (g - 4)) ∗ semVal (thr d L, .dma smI) 0)

/-- The last buffer at the start of trip `t`: unused yet, or slab `4 t - 1`'s results on their way out. -/
def St3 (G : S1024x100000.Idx → F .f32) (t : ℕ) : sProp 𝕄 :=
  if t = 0 then iprop((∃ y, buf (F := F) (e := .f32) d L b3 y) ∗ semVal (thr d L, .dma cc0_scratch14.sem) 0 ∗ semVal (thr d L, .dma cc0_scratch10.sem) 0)
  else iprop(outFl d L G b3 cc0_scratch14.sem (gR L (4 * t - 1)) (gC (4 * t - 1)) ∗ semVal (thr d L, .dma cc0_scratch10.sem) 0)

/-- The labels' masks, safe columns and looked-up logits of slab `4 t + b`. -/
abbrev cW (t : ℕ) (b : BitVec 32) : BitVec 32 := Scalar.muli (Scalar.andi (slabW t b) 31#32) 3072#32
abbrev mk (Lb : S1024.Idx → BitVec 32) (g t : ℕ) (b : BitVec 32) : IVec S16 1 := maskV (labVec Lb (gR L g)) (cW t b) 3072#32
abbrev sf (Lb : S1024.Idx → BitVec 32) (g t : ℕ) (b : BitVec 32) : IVec S16 32 := safeV (labVec Lb (gR L g)) (cW t b) 3072#32

/-- The looked-up columns of a slab are the buffer's. -/
theorem sf_ok' (Lb : S1024.Idx → BitVec 32) (t : Fin 32) {g : ℕ} {b : BitVec 32} (hg : g < 128) (h0 : cW t.val b = BitVec.ofNat 32 (gC g)) :
    ∀ a x, ((![lane8, sf L Lb g t.val b] : Fin 2 → IVec S16 32) a x).toNat < S8x3072.size a :=
  idx_ok _ h0 rfl (slab_in L hg).2 (by decide)

/-- The logits looked up at the labels' columns of a slab. -/
abbrev lk (X : S1024x100000.Idx → F .f32) (Lb : S1024.Idx → BitVec 32) (g t : ℕ) (b : BitVec 32)
    (h : ∀ a x, ((![lane8, sf L Lb g t b] : Fin 2 → IVec S16 32) a x).toNat < S8x3072.size a) : FVec F S16 .f32 :=
  loadIdx (F := F) (e := .f32) (win 3072 X (gR L g) (gC g)) ![lane8, sf L Lb g t b] h

end Part

end Cert.Proof.Arc

end
-- ==== Proof.Ring.lean ====
module

public import proofs.«01_k».proof.Proof.State

@[expose] public section

noncomputable section

namespace Cert.Proof.Arc

open Cert.KernelIdeal Cert.KernelIdeal.Gen
open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Tactic

variable {F : FTy → Type}

local notation "𝕄" => MT nD τ sig (HIx 1) (Elt F) ℕ UU ℕ

section Part

variable [FloatOps F] [Named F] (d : Dev nD) (L : grid0.Coords)

local notation "WP" => wp frame (wpE (defs₀ (F := F)) 𝒱₀ (thr d L) none) Set.univ

/-- A family whose first `t` members are done: the next member is taken out, and done, put back. -/
theorem bigSep_next (n t : ℕ) (h : t < n) (A B : ℕ → sProp 𝕄) :
    bigSep (Finset.range n) (fun u => if u < t then A u else B u)
      ⊢ iprop(B t ∗ (A t -∗ bigSep (Finset.range n) (fun u => if u < t + 1 then A u else B u))) := by
  have hm : t ∈ Finset.range n := Finset.mem_range.2 h
  have e1 : bigSep (Finset.range n) (fun u => if u < t then A u else B u)
      = iprop(B t ∗ bigSep ((Finset.range n).erase t) (fun u => if u < t then A u else B u)) := by
    rw [bigSep_erase hm, if_neg (Nat.lt_irrefl t)]; rfl
  have e2 : bigSep (Finset.range n) (fun u => if u < t + 1 then A u else B u)
      = iprop(A t ∗ bigSep ((Finset.range n).erase t) (fun u => if u < t + 1 then A u else B u)) := by
    rw [bigSep_erase hm, if_pos (Nat.lt_succ_self t)]; rfl
  rw [e1, e2]
  iintro ⟨Hb, Hr⟩
  isplitl [Hb]; · iexact Hb
  iintro Ha
  isplitl [Ha]; · iexact Ha
  iapply (Entails.of_eq (bigSep_congr fun u hu => ?_)) $$ Hr
  have hne := (Finset.mem_erase.1 hu).1
  by_cases hlt : u < t
  · rw [if_pos hlt, if_pos (by omega)]
  · rw [if_neg hlt, if_neg (by omega)]

/-- The logits' pieces trip `u` takes for its copies in, and the pieces whose copies it sees arrive. -/
def xt (X : Buf (Elt F) (xLoc d)) (u : ℕ) : sProp 𝕄 := iprop(xp d L X (4 * u + 3) ∗ xp d L X (4 * u + 4) ∗ xp d L X (4 * u + 5) ∗ xp d L X (4 * u + 6))
def xd (X : Buf (Elt F) (xLoc d)) (u : ℕ) : sProp 𝕄 :=
  iprop((xLoc d ↦[pcs (gR L (4 * u + 0)) (gC (4 * u + 0)) 3072]{fullShare} X) ∗ (xLoc d ↦[pcs (gR L (4 * u + 1)) (gC (4 * u + 1)) 3072]{fullShare} X)
    ∗ (xLoc d ↦[pcs (gR L (4 * u + 2)) (gC (4 * u + 2)) 3072]{fullShare} X) ∗ (xLoc d ↦[pcs (gR L (4 * u + 3)) (gC (4 * u + 3)) 3072]{fullShare} X))

/-- The result's pieces trip `u` starts to write, and those it sees written. -/
def otr (u : ℕ) : sProp 𝕄 := iprop(ot (F := F) d L (4 * u + 0) ∗ ot (F := F) d L (4 * u + 1) ∗ ot (F := F) d L (4 * u + 2) ∗ ot (F := F) d L (4 * u + 3))
def od (G : Buf (Elt F) (oLoc d)) (u : ℕ) : sProp 𝕄 := iprop(oq d L G (4 * u + 0) ∗ oq d L G (4 * u + 1) ∗ oq d L G (4 * u + 2) ∗ oq d L G (4 * u + 3))

/-- The ring at the start of trip `t`. -/
def Ring (X G : S1024x100000.Idx → F .f32) (Lb : S1024.Idx → BitVec 32) (O : CellTallies nD τ sig (HIx 1)) (W₀ : Waits sig (HIx 1)) (t : ℕ) : sProp 𝕄 :=
  iprop(St d L X G b0 cc0_scratch7.sem cc0_scratch11.sem t (4 * t + 0) ∗ St d L X G b1 cc0_scratch8.sem cc0_scratch12.sem t (4 * t + 1)
    ∗ St d L X G b2 cc0_scratch9.sem cc0_scratch13.sem t (4 * t + 2) ∗ St3 d L G t
    ∗ bigSep (Finset.range 32) (fun u => if u < t then xd d L X u else xt d L X u)
    ∗ bigSep (Finset.range 32) (fun u => if u < t then od d L G u else otr (F := F) d L u)
    ∗ buf (F := F) (e := .i32) d L bL (labWin Lb (R0 L)) ∗ ow d L O W₀ ∗ MayWaits (thr d L) (none : HIx 1) O)

/-! ## The labels -/

/-- The tile's thirty-two labels. -/
def lpc (R : ℕ) : Finset S1024.Idx := Finset.univ.filter fun i => R ≤ (i 0).val ∧ (i 0).val < R + 32

/-- The tile's labels are copied into its buffer. -/
theorem wp_lab (sm : DmaSem sig) (Lb : Buf (Elt F) (lLoc d)) {off : Fin 1 → ℕ} {R : ℕ} (hoff : off = ![R])
    {inb : ∀ a, off a + S32.size a ≤ S1024.size a} {hs : ∀ a, (Rect.unit (s := S1024) off S32.size inb).stride a = 1}
    {hsrc : (lV.slice (Rect.unit (s := S1024) off S32.size inb) hs).view.WordExact} {hdst : bL.view.WordExact}
    {hsem : DmaTarget.Typed (nD := nD) .hbm (.dma sm) (.here bL : DmaTarget nD τ sig (Proc.scVector (cV L) (jV L)) .vmem S32 .i32)}
    {sp : Space} {s' : Shape} {e' : EltTy} {srcw : Memref sig .scVector sp s' e'} {hsrc' : srcw.view.WordExact} {hdst' : bL.view.WordExact}
    {O : CellTallies nD τ sig (HIx 1)} {W₀ : Waits sig (HIx 1)}
    {α : Type} {Q : α → sProp 𝕄} {k : PUnit.{1} → TProg F L α} :
    iprop((lLoc d ↦[lpc R]{fullShare} Lb) ∗ (∃ y, buf (F := F) (e := .i32) d L bL y) ∗ semVal (thr d L, .dma sm) 0 ∗ ow d L O W₀ ∗ MayWaits (thr d L) (none : HIx 1) O)
      ⊢ iprop((iprop((lLoc d ↦[lpc R]{fullShare} Lb) ∗ buf (F := F) (e := .i32) d L bL (labWin Lb R) ∗ semVal (thr d L, .dma sm) 0 ∗ ow d L O W₀)
          -∗ WP (k ⟨⟩) Q) -∗
        WP (Prog.lift (.enqueueDma (lV.slice (Rect.unit (s := S1024) off S32.size inb) hs) (.here bL) (.dma sm) hsrc hdst hsem) >>= fun _ =>
          Prog.lift (.waitDma2 sm srcw bL hsrc' hdst') >>= k) Q) := by
  have hset : (lV.slice (Rect.unit (s := S1024) off S32.size inb) hs).view.set = lpc R := by
    have e : (lV.slice (Rect.unit (s := S1024) off S32.size inb) hs).view.set = (Rect.unit (s := S1024) off S32.size inb).set := by
      show ((View.whole (main_arg1_scv : Ref sig .scVector)).slice _).set = _
      rw [View.set_slice]; exact Finset.map_refl
    rw [e]
    subst hoff
    ext i
    rw [Rect.mem_set_unit]
    unfold lpc
    rw [Finset.mem_filter]
    constructor
    · exact fun h => ⟨Finset.mem_univ _, h 0⟩
    · intro h a
      match a with
      | 0 => exact h.2
  rw [Prog.bind_lift]
  unfold buf owns ow
  iintro ⟨Hx, ⟨%y, %f, %hf, Hb⟩, Hv, ⟨%W', %hW', HO⟩, Hm⟩ Hk
  iapply (wp_dmaLocal EC 𝒱₀ (thr d L) none (src := lV.slice (Rect.unit (s := S1024) off S32.size inb) hs) (dst := bL)
    (q := fullShare) (fs := Lb) (Sd := bL.view.set) (fd := f) none bL.view.dmaCredit rfl (View.dmaCredit_pos _ ?_) (Finset.Subset.refl _)) $$ [Hx Hb Hv]
  · decide
  · isplitl [Hx]
    · rw [hset]; iexact Hx
    isplitl [Hb]; · iexact Hb
    iexact Hv
  iintro Hf
  iapply (wp_waitLocalO EC 𝒱₀ (thr d L) none none rfl) $$ [Hf HO Hm]
  · isplitl [Hf]; · iexact Hf
    isplitl [HO]; · iexact HO
    iapply (MayWaits.elim (SemLoc.dma sm)) $$ Hm
  iintro ⟨⟨Hb, Hx⟩, Hv, HO⟩
  iapply Hk
  isplitl [Hx]
  · rw [hset]; iexact Hx
  isplitl [Hb]
  · iexists _; isplitr; swap; · iexact Hb
    ipureintro
    rw [View.read_write_univ]
    funext p
    subst hoff
    have h1 : R + 32 ≤ 1024 := inb 0
    have hp : (p 0).val < 32 := (p 0).isLt
    show Lb _ = Lb _
    congr 1
    funext a
    match a with
    | 0 =>
      refine Fin.ext ?_
      show ((Rect.unit (s := S1024) ![R] S32.size inb).emb p 0).val = (R + (p 0).val) % 1024
      rw [Rect.emb_apply]
      show R + 1 * (p 0).val = _
      rw [Nat.mod_eq_of_lt (by omega), Nat.one_mul]
  isplitl [Hv]; · iexact Hv
  iexists _; isplitr; swap; · iexact HO
  ipureintro
  intro p hp
  rcases Finset.mem_insert.1 hp with rfl | hp
  · exact Or.inr rfl
  · exact hW' p hp

end Part

end Cert.Proof.Arc

end
-- ==== Proof.Part1.lean ====
module

public import proofs.«01_k».proof.Proof.State

@[expose] public section

noncomputable section

namespace Cert.Proof.Arc

open Cert.KernelIdeal Cert.KernelIdeal.Gen
open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Tactic

variable {F : FTy → Type}

local notation "𝕄" => MT nD τ sig (HIx 1) (Elt F) ℕ UU ℕ

section Part

variable [FloatOps F] [Named F] (d : Dev nD) (L : grid0.Coords)

local notation "WP" => wp frame (wpE (defs₀ (F := F)) 𝒱₀ (thr d L) none) Set.univ

/-- Part 1 of the program, on the tile's own buffers. -/
abbrev P1 (t : Fin k0_t1_loop.trips) :=
  k0_part1 (F := F) L xV (Memref.isWhole_whole _) lV (Memref.isWhole_whole _) oV (Memref.isWhole_whole _) b0 (Memref.isWhole_whole _) b1 (Memref.isWhole_whole _)
    b2 (Memref.isWhole_whole _) b3 (Memref.isWhole_whole _) bR (Memref.isWhole_whole _) bT (Memref.isWhole_whole _) bL (Memref.isWhole_whole _)
    cc0_scratch7 cc0_scratch8 cc0_scratch9 cc0_scratch10 cc0_scratch11 cc0_scratch12 cc0_scratch13 cc0_scratch14 cc0_scoped0 cc0_scoped1 cc0_scoped2 cc0_scoped3 cc0_scoped4
    (rowW L) lane8 isRow 0#32 1#32 t

set_option maxHeartbeats 4000000 in
/-- The first buffer: its slab arrives and its labels' elements are replaced. -/
theorem part1 (X : Buf (Elt F) (xLoc d)) (Lb : S1024.Idx → BitVec 32) (t : Fin k0_t1_loop.trips)
    (O : CellTallies nD τ sig (HIx 1)) (W₀ : Waits sig (HIx 1)) {α : Type} {Q : α → sProp 𝕄} {kk : _ → TProg F L α} :
    iprop(inFl d L X b0 cc0_scratch7.sem (gR L (4 * t.val + 0)) (gC (4 * t.val + 0)) ∗ buf (F := F) (e := .i32) d L bL (labWin Lb (R0 L)) ∗ ow d L O W₀ ∗ MayWaits (thr d L) (none : HIx 1) O)
      ⊢ iprop((iprop(buf (F := F) (e := .f32) d L b0 (win 3072 (fixed X Lb) (gR L (4 * t.val + 0)) (gC (4 * t.val + 0))) ∗ (xLoc d ↦[pcs (gR L (4 * t.val + 0)) (gC (4 * t.val + 0)) 3072]{fullShare} X) ∗ semVal (thr d L, .dma cc0_scratch7.sem) 0 ∗ buf (F := F) (e := .i32) d L bL (labWin Lb (R0 L)) ∗ ow d L O W₀)
          -∗ WP (kk ⟨Scf.iv 0#32 1#32 t, slabW t 0#32⟩) Q) -∗ WP (P1 L t >>= kk) Q) := by
  have ht : t.val < 32 := t.isLt
  have hs := slab_in L (g := 4 * t.val + 0) (by omega)
  have hb : t.val / 8 < 4 := by omega
  have hR : gR L (4 * t.val + 0) = R0 L + 8 * (t.val / 8) := gR_trip L t 0
  have h0 : cW t.val 0#32 = BitVec.ofNat 32 (gC (4 * t.val + 0)) := gC_trip t 0
  have hw : Scalar.muli (Scalar.shrsi (slabW t.val 0#32) 5#32) 8#32 = BitVec.ofNat 32 (8 * (t.val / 8)) := slabW_band t 0
  have hsf := sf_ok' L Lb t (by omega) h0
  unfold P1 k0_part1
  simp only [bind_assoc, pure_bind]
  iintro ⟨Hf, Hl, HO, #Hmw⟩ Hk
  iapply (wp_inW d L b0 cc0_scratch7.sem X _ _) $$ [Hf HO]
  · isplitl [Hf]; · iexact Hf
    isplitl [HO]; · iexact HO
    iexact Hmw
  iintro ⟨⟨Hb, Hx⟩, Hv, HO⟩
  iapply (wp_chk d L (bandIdx_lt hw hb))
  iapply (wp_labels d L Lb (R0 L) hw hb) $$ Hl
  iintro Hl
  rw [← hR]
  iapply (wp_chk d L ⟨hsf, hsf⟩)
  iapply (wp_gather d L b0) $$ Hb
  iintro Hb
  iapply (wp_fix d L b0 X Lb h0 rfl hs.1 hs.2) $$ Hb
  iintro Hb
  iapply Hk
  isplitl [Hb]; · iexact Hb
  isplitl [Hx]; · iexact Hx
  isplitl [Hv]; · iexact Hv
  isplitl [Hl]; · iexact Hl
  iexact HO

/-- Part 2 of the program, on the tile's own buffers. -/
abbrev P2 (t : Fin k0_t1_loop.trips) :=
  k0_part2 (F := F) L xV (Memref.isWhole_whole _) lV (Memref.isWhole_whole _) oV (Memref.isWhole_whole _) b0 (Memref.isWhole_whole _) b1 (Memref.isWhole_whole _)
    b2 (Memref.isWhole_whole _) b3 (Memref.isWhole_whole _) bR (Memref.isWhole_whole _) bT (Memref.isWhole_whole _) bL (Memref.isWhole_whole _)
    cc0_scratch7 cc0_scratch8 cc0_scratch9 cc0_scratch10 cc0_scratch11 cc0_scratch12 cc0_scratch13 cc0_scratch14 cc0_scoped0 cc0_scoped1 cc0_scoped2 cc0_scoped3 cc0_scoped4
    (rowW L) t (slabW t.val 0#32)

set_option maxHeartbeats 4000000 in
/-- The first buffer's rows are scaled and its copy out starts. -/
theorem part2 (X : Buf (Elt F) (xLoc d)) (Lb : S1024.Idx → BitVec 32) (t : Fin k0_t1_loop.trips)
    (O : CellTallies nD τ sig (HIx 1)) (W₀ : Waits sig (HIx 1)) {α : Type} {Q : α → sProp 𝕄} {kk : _ → TProg F L α} :
    iprop(buf (F := F) (e := .f32) d L b0 (win 3072 (fixed X Lb) (gR L (4 * t.val + 0)) (gC (4 * t.val + 0))) ∗ ot (F := F) d L (4 * t.val + 0) ∗ semVal (thr d L, .dma cc0_scratch11.sem) 0)
      ⊢ iprop((iprop(outFl d L (outG X Lb) b0 cc0_scratch11.sem (gR L (4 * t.val + 0)) (gC (4 * t.val + 0)))
          -∗ WP (kk ⟨⟩) Q) -∗ WP (P2 L t >>= kk) Q) := by
  unfold P2 k0_part2
  simp only [bind_assoc, pure_bind]
  unfold ot
  iintro ⟨Hb, Ho, Hs⟩ Hk
  ihave Hb := (Entails.of_eq (congrArg (buf (F := F) (e := .f32) d L b0) (show _ = scaled 192 (0 * 192) (win 3072 (fixed X Lb) (gR L (4 * t.val + 0)) (gC (4 * t.val + 0))) from (scaled_zero 192 _).symm))) $$ Hb
  iapply (wp_row (T := 192) d L b0 k0_t2_loop k0_t2_ok 0 k0_off6 rfl k0_off6_eq rfl _) $$ Hb
  iintro Hb
  iapply (wp_row (T := 192) d L b0 k0_t3_loop k0_t3_ok 1 k0_off7 rfl k0_off7_eq rfl _) $$ Hb
  iintro Hb
  iapply (wp_row (T := 192) d L b0 k0_t4_loop k0_t4_ok 2 k0_off8 rfl k0_off8_eq rfl _) $$ Hb
  iintro Hb
  iapply (wp_row (T := 192) d L b0 k0_t5_loop k0_t5_ok 3 k0_off9 rfl k0_off9_eq rfl _) $$ Hb
  iintro Hb
  iapply (wp_row (T := 192) d L b0 k0_t6_loop k0_t6_ok 4 k0_off10 rfl k0_off10_eq rfl _) $$ Hb
  iintro Hb
  iapply (wp_row (T := 192) d L b0 k0_t7_loop k0_t7_ok 5 k0_off11 rfl k0_off11_eq rfl _) $$ Hb
  iintro Hb
  iapply (wp_row (T := 192) d L b0 k0_t8_loop k0_t8_ok 6 k0_off12 rfl k0_off12_eq rfl _) $$ Hb
  iintro Hb
  iapply (wp_row (T := 192) d L b0 k0_t9_loop k0_t9_ok 7 k0_off13 rfl k0_off13_eq rfl _) $$ Hb
  iintro Hb
  iapply (wp_out d L (by decide) b0 cc0_scratch11.sem (outG X Lb) (off14_0 L t)) $$ [Hb Ho Hs]
  · isplitl [Hb]
    · iapply (Entails.of_eq (congrArg (buf d L b0) (scaled_all (T := 192) rfl X Lb _ _))) $$ Hb
    isplitl [Ho]; · iexact Ho
    iexact Hs
  iintro Ho
  iapply Hk
  iexact Ho

end Part

end Cert.Proof.Arc

end
-- ==== Proof.Part3.lean ====
module

public import proofs.«01_k».proof.Proof.State

@[expose] public section

noncomputable section

namespace Cert.Proof.Arc

open Cert.KernelIdeal Cert.KernelIdeal.Gen
open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Tactic

variable {F : FTy → Type}

local notation "𝕄" => MT nD τ sig (HIx 1) (Elt F) ℕ UU ℕ

section Part

variable [FloatOps F] [Named F] (d : Dev nD) (L : grid0.Coords)

local notation "WP" => wp frame (wpE (defs₀ (F := F)) 𝒱₀ (thr d L) none) Set.univ

/-- Part 3 of the program, on the tile's own buffers. -/
abbrev P3 (t : Fin k0_t1_loop.trips) :=
  k0_part3 (F := F) L xV (Memref.isWhole_whole _) lV (Memref.isWhole_whole _) oV (Memref.isWhole_whole _) b0 (Memref.isWhole_whole _) b1 (Memref.isWhole_whole _)
    b2 (Memref.isWhole_whole _) b3 (Memref.isWhole_whole _) bR (Memref.isWhole_whole _) bT (Memref.isWhole_whole _) bL (Memref.isWhole_whole _)
    cc0_scratch7 cc0_scratch8 cc0_scratch9 cc0_scratch10 cc0_scratch11 cc0_scratch12 cc0_scratch13 cc0_scratch14 cc0_scoped0 cc0_scoped1 cc0_scoped2 cc0_scoped3 cc0_scoped4
    (rowW L) lane8 isRow t (Scf.iv 0#32 1#32 t) (slabW t.val 0#32)

set_option maxHeartbeats 4000000 in
/-- The last buffer is refilled with slab `4 t + 3`, and the second buffer's slab arrives and is looked up. -/
theorem part3 (X : Buf (Elt F) (xLoc d)) (Lb : S1024.Idx → BitVec 32) (t : Fin k0_t1_loop.trips)
    (O : CellTallies nD τ sig (HIx 1)) (W₀ : Waits sig (HIx 1)) (h4 : k0_chk4 lane8 (sf L Lb (4 * t.val + 1) t 1#32)) {α : Type} {Q : α → sProp 𝕄} {kk : _ → TProg F L α} :
    iprop(St3 d L (outG X Lb) t.val ∗ xp d L X (4 * t.val + 3) ∗ inFl d L X b1 cc0_scratch8.sem (gR L (4 * t.val + 1)) (gC (4 * t.val + 1)) ∗ buf (F := F) (e := .i32) d L bL (labWin Lb (R0 L)) ∗ ow d L O W₀ ∗ MayWaits (thr d L) (none : HIx 1) O)
      ⊢ iprop((iprop(inFl d L X b3 cc0_scratch10.sem (gR L (4 * t.val + 3)) (gC (4 * t.val + 3)) ∗ semVal (thr d L, .dma cc0_scratch14.sem) 0 ∗ oq d L (outG X Lb) (4 * t.val + 0) ∗ buf (F := F) (e := .f32) d L b1 (win 3072 X (gR L (4 * t.val + 1)) (gC (4 * t.val + 1))) ∗ (xLoc d ↦[pcs (gR L (4 * t.val + 1)) (gC (4 * t.val + 1)) 3072]{fullShare} X) ∗ semVal (thr d L, .dma cc0_scratch8.sem) 0 ∗ buf (F := F) (e := .i32) d L bL (labWin Lb (R0 L)) ∗ ow d L O W₀)
          -∗ WP (kk ⟨slabW t 1#32, mk L Lb (4 * t.val + 1) t 1#32, sf L Lb (4 * t.val + 1) t 1#32, h4, mulf (lk L X Lb (4 * t.val + 1) t 1#32 h4.1) (broadcast S16 (Named.named κ "cos_m" 0x3F60A940#32)), subf (broadcast S16 (Scalar.ofBits .f32 0x3F800000#32)) (mulf (lk L X Lb (4 * t.val + 1) t 1#32 h4.1) (lk L X Lb (4 * t.val + 1) t 1#32 h4.1))⟩) Q) -∗ WP (P3 L t >>= kk) Q) := by
  have ht : t.val < 32 := t.isLt
  have hs := slab_in L (g := 4 * t.val + 1) (by omega)
  have hb : t.val / 8 < 4 := by omega
  have hR : gR L (4 * t.val + 1) = R0 L + 8 * (t.val / 8) := gR_trip L t 1
  have h0 : cW t.val 1#32 = BitVec.ofNat 32 (gC (4 * t.val + 1)) := gC_trip t 1
  have hw : Scalar.muli (Scalar.shrsi (slabW t.val 1#32) 5#32) 8#32 = BitVec.ofNat 32 (8 * (t.val / 8)) := slabW_band t 1
  have hsf := sf_ok' L Lb t (by omega) h0
  have hx3 : 4 * t.val + 3 < 128 := by omega
  unfold P3 k0_part3
  simp only [bind_assoc, pure_bind, dif_pos (cond1_eq t)]
  unfold St3 xp oq
  rw [if_pos hx3]
  by_cases ht0 : t.val = 0
  · have hc : ¬ k0_cond2 t = 1#1 := fun h => by have := (cond2_iff t).1 h; omega
    simp only [dif_neg hc, bind_assoc, pure_bind]
    rw [if_pos ht0, if_neg (by omega)]
    iintro ⟨⟨Hb3, Hs, Hi3⟩, Hx3, Hf, Hl, HO, #Hmw⟩ Hk
    iapply (wp_in d L (by decide) b3 cc0_scratch10.sem X (off16_eq L t)) $$ [Hb3 Hx3 Hi3]
    · isplitl [Hx3]; · iexact Hx3
      isplitl [Hb3]; · iexact Hb3
      iexact Hi3
    iintro Hi
    iapply (wp_inW d L b1 cc0_scratch8.sem X _ _) $$ [Hf HO]
    · isplitl [Hf]; · iexact Hf
      isplitl [HO]; · iexact HO
      iexact Hmw
    iintro ⟨⟨Hb, Hx⟩, Hv, HO⟩
    iapply (wp_chk d L (bandIdx_lt hw hb))
    iapply (wp_labels d L Lb (R0 L) hw hb) $$ Hl
    iintro Hl
    rw [← hR]
    iapply (wp_chk d L ⟨hsf, hsf⟩)
    iapply (wp_gather d L b1) $$ Hb
    iintro Hb
    iapply Hk
    isplitl [Hi]; · iexact Hi
    isplitl [Hs]; · iexact Hs
    isplitr; · iempintro
    isplitl [Hb]; · iexact Hb
    isplitl [Hx]; · iexact Hx
    isplitl [Hv]; · iexact Hv
    isplitl [Hl]; · iexact Hl
    iexact HO
  · have hc : k0_cond2 t = 1#1 := (cond2_iff t).2 (by omega)
    simp only [dif_pos hc, bind_assoc, pure_bind]
    rw [if_neg ht0, if_pos (by omega)]
    iintro ⟨⟨Hp, Hi3⟩, Hx3, Hf, Hl, HO, #Hmw⟩ Hk
    iapply (wp_outW d L b3 cc0_scratch14.sem (outG X Lb) _ _) $$ [Hp HO]
    · isplitl [Hp]; · iexact Hp
      isplitl [HO]; · iexact HO
      iexact Hmw
    iintro ⟨⟨Hq, Hb3⟩, Hs, HO⟩
    iapply (wp_in d L (by decide) b3 cc0_scratch10.sem X (off16_eq L t)) $$ [Hb3 Hx3 Hi3]
    · isplitl [Hx3]; · iexact Hx3
      isplitl [Hb3]; · iexists _; iexact Hb3
      iexact Hi3
    iintro Hi
    iapply (wp_inW d L b1 cc0_scratch8.sem X _ _) $$ [Hf HO]
    · isplitl [Hf]; · iexact Hf
      isplitl [HO]; · iexact HO
      iexact Hmw
    iintro ⟨⟨Hb, Hx⟩, Hv, HO⟩
    iapply (wp_chk d L (bandIdx_lt hw hb))
    iapply (wp_labels d L Lb (R0 L) hw hb) $$ Hl
    iintro Hl
    rw [← hR]
    iapply (wp_chk d L ⟨hsf, hsf⟩)
    iapply (wp_gather d L b1) $$ Hb
    iintro Hb
    iapply Hk
    isplitl [Hi]; · iexact Hi
    isplitl [Hs]; · iexact Hs
    isplitl [Hq]; · iexact Hq
    isplitl [Hb]; · iexact Hb
    isplitl [Hx]; · iexact Hx
    isplitl [Hv]; · iexact Hv
    isplitl [Hl]; · iexact Hl
    iexact HO

/-- Part 4 of the program, on the tile's own buffers. -/
abbrev P4 (X : S1024x100000.Idx → F .f32) (Lb : S1024.Idx → BitVec 32) (t : Fin k0_t1_loop.trips) (h4 : k0_chk4 lane8 (sf L Lb (4 * t.val + 1) t 1#32)) :=
  k0_part4 (F := F) L xV (Memref.isWhole_whole _) lV (Memref.isWhole_whole _) oV (Memref.isWhole_whole _) b0 (Memref.isWhole_whole _) b1 (Memref.isWhole_whole _)
    b2 (Memref.isWhole_whole _) b3 (Memref.isWhole_whole _) bR (Memref.isWhole_whole _) bT (Memref.isWhole_whole _) bL (Memref.isWhole_whole _)
    cc0_scratch7 cc0_scratch8 cc0_scratch9 cc0_scratch10 cc0_scratch11 cc0_scratch12 cc0_scratch13 cc0_scratch14 cc0_scoped0 cc0_scoped1 cc0_scoped2 cc0_scoped3 cc0_scoped4
    lane8 (slabW t.val 1#32) (mk L Lb (4 * t.val + 1) t 1#32) (sf L Lb (4 * t.val + 1) t 1#32) h4 (mulf (lk L X Lb (4 * t.val + 1) t 1#32 h4.1) (broadcast S16 (Named.named κ "cos_m" 0x3F60A940#32))) (subf (broadcast S16 (Scalar.ofBits .f32 0x3F800000#32)) (mulf (lk L X Lb (4 * t.val + 1) t 1#32 h4.1) (lk L X Lb (4 * t.val + 1) t 1#32 h4.1)))

set_option maxHeartbeats 4000000 in
/-- The second buffer: its labels' elements are replaced and its rows scaled. -/
theorem part4 (X : Buf (Elt F) (xLoc d)) (Lb : S1024.Idx → BitVec 32) (t : Fin k0_t1_loop.trips)
    (O : CellTallies nD τ sig (HIx 1)) (W₀ : Waits sig (HIx 1)) (h4 : k0_chk4 lane8 (sf L Lb (4 * t.val + 1) t 1#32)) {α : Type} {Q : α → sProp 𝕄} {kk : _ → TProg F L α} :
    iprop(buf (F := F) (e := .f32) d L b1 (win 3072 X (gR L (4 * t.val + 1)) (gC (4 * t.val + 1))))
      ⊢ iprop((iprop(buf (F := F) (e := .f32) d L b1 (scaled 192 (8 * 192) (win 3072 (fixed X Lb) (gR L (4 * t.val + 1)) (gC (4 * t.val + 1)))))
          -∗ WP (kk ⟨Scalar.shrsi (slabW t.val 1#32) 5#32, 8#32⟩) Q) -∗ WP (P4 L X Lb t h4 >>= kk) Q) := by
  have ht : t.val < 32 := t.isLt
  have hs := slab_in L (g := 4 * t.val + 1) (by omega)
  have hb : t.val / 8 < 4 := by omega
  have hR : gR L (4 * t.val + 1) = R0 L + 8 * (t.val / 8) := gR_trip L t 1
  have h0 : cW t.val 1#32 = BitVec.ofNat 32 (gC (4 * t.val + 1)) := gC_trip t 1
  have hw : Scalar.muli (Scalar.shrsi (slabW t.val 1#32) 5#32) 8#32 = BitVec.ofNat 32 (8 * (t.val / 8)) := slabW_band t 1
  have hsf := sf_ok' L Lb t (by omega) h0
  unfold P4 k0_part4
  simp only [bind_assoc, pure_bind]
  iintro Hb Hk
  iapply (wp_fix d L b1 X Lb h0 rfl hs.1 hs.2) $$ Hb
  iintro Hb
  ihave Hb := (Entails.of_eq (congrArg (buf (F := F) (e := .f32) d L b1) (show _ = scaled 192 (0 * 192) (win 3072 (fixed X Lb) (gR L (4 * t.val + 1)) (gC (4 * t.val + 1))) from (scaled_zero 192 _).symm))) $$ Hb
  iapply (wp_row (T := 192) d L b1 k0_t10_loop k0_t10_ok 0 k0_off17 rfl k0_off17_eq rfl _) $$ Hb
  iintro Hb
  iapply (wp_row (T := 192) d L b1 k0_t11_loop k0_t11_ok 1 k0_off18 rfl k0_off18_eq rfl _) $$ Hb
  iintro Hb
  iapply (wp_row (T := 192) d L b1 k0_t12_loop k0_t12_ok 2 k0_off19 rfl k0_off19_eq rfl _) $$ Hb
  iintro Hb
  iapply (wp_row (T := 192) d L b1 k0_t13_loop k0_t13_ok 3 k0_off20 rfl k0_off20_eq rfl _) $$ Hb
  iintro Hb
  iapply (wp_row (T := 192) d L b1 k0_t14_loop k0_t14_ok 4 k0_off21 rfl k0_off21_eq rfl _) $$ Hb
  iintro Hb
  iapply (wp_row (T := 192) d L b1 k0_t15_loop k0_t15_ok 5 k0_off22 rfl k0_off22_eq rfl _) $$ Hb
  iintro Hb
  iapply (wp_row (T := 192) d L b1 k0_t16_loop k0_t16_ok 6 k0_off23 rfl k0_off23_eq rfl _) $$ Hb
  iintro Hb
  iapply (wp_row (T := 192) d L b1 k0_t17_loop k0_t17_ok 7 k0_off24 rfl k0_off24_eq rfl _) $$ Hb
  iintro Hb
  iapply Hk
  iexact Hb

end Part

end Cert.Proof.Arc

end
-- ==== Proof.Part5.lean ====
module

public import proofs.«01_k».proof.Proof.State

@[expose] public section

noncomputable section

namespace Cert.Proof.Arc

open Cert.KernelIdeal Cert.KernelIdeal.Gen
open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Tactic

variable {F : FTy → Type}

local notation "𝕄" => MT nD τ sig (HIx 1) (Elt F) ℕ UU ℕ

section Part

variable [FloatOps F] [Named F] (d : Dev nD) (L : grid0.Coords)

local notation "WP" => wp frame (wpE (defs₀ (F := F)) 𝒱₀ (thr d L) none) Set.univ

/-- Part 5 of the program, on the tile's own buffers. -/
abbrev P5 (t : Fin k0_t1_loop.trips) :=
  k0_part5 (F := F) L xV (Memref.isWhole_whole _) lV (Memref.isWhole_whole _) oV (Memref.isWhole_whole _) b0 (Memref.isWhole_whole _) b1 (Memref.isWhole_whole _)
    b2 (Memref.isWhole_whole _) b3 (Memref.isWhole_whole _) bR (Memref.isWhole_whole _) bT (Memref.isWhole_whole _) bL (Memref.isWhole_whole _)
    cc0_scratch7 cc0_scratch8 cc0_scratch9 cc0_scratch10 cc0_scratch11 cc0_scratch12 cc0_scratch13 cc0_scratch14 cc0_scoped0 cc0_scoped1 cc0_scoped2 cc0_scoped3 cc0_scoped4
    (rowW L) lane8 isRow t (Scf.iv 0#32 1#32 t) (slabW t.val 1#32) (Scalar.shrsi (slabW t.val 1#32) 5#32) 8#32

set_option maxHeartbeats 4000000 in
/-- The second buffer's copy out starts, the first buffer is refilled with slab `4 t + 4` when there is one, and the third buffer's slab arrives. -/
theorem part5 (X : Buf (Elt F) (xLoc d)) (Lb : S1024.Idx → BitVec 32) (t : Fin k0_t1_loop.trips)
    (O : CellTallies nD τ sig (HIx 1)) (W₀ : Waits sig (HIx 1)) {α : Type} {Q : α → sProp 𝕄} {kk : _ → TProg F L α} :
    iprop(buf (F := F) (e := .f32) d L b1 (scaled 192 (8 * 192) (win 3072 (fixed X Lb) (gR L (4 * t.val + 1)) (gC (4 * t.val + 1)))) ∗ ot (F := F) d L (4 * t.val + 1) ∗ semVal (thr d L, .dma cc0_scratch12.sem) 0 ∗ outFl d L (outG X Lb) b0 cc0_scratch11.sem (gR L (4 * t.val + 0)) (gC (4 * t.val + 0)) ∗ semVal (thr d L, .dma cc0_scratch7.sem) 0 ∗ xp d L X (4 * t.val + 4) ∗ inFl d L X b2 cc0_scratch9.sem (gR L (4 * t.val + 2)) (gC (4 * t.val + 2)) ∗ buf (F := F) (e := .i32) d L bL (labWin Lb (R0 L)) ∗ ow d L O W₀ ∗ MayWaits (thr d L) (none : HIx 1) O)
      ⊢ iprop((iprop(outFl d L (outG X Lb) b1 cc0_scratch12.sem (gR L (4 * t.val + 1)) (gC (4 * t.val + 1)) ∗ St d L X (outG X Lb) b0 cc0_scratch7.sem cc0_scratch11.sem (t.val + 1) (4 * t.val + 4) ∗ oq d L (outG X Lb) (4 * t.val + 1) ∗ buf (F := F) (e := .f32) d L b2 (win 3072 X (gR L (4 * t.val + 2)) (gC (4 * t.val + 2))) ∗ (xLoc d ↦[pcs (gR L (4 * t.val + 2)) (gC (4 * t.val + 2)) 3072]{fullShare} X) ∗ semVal (thr d L, .dma cc0_scratch9.sem) 0 ∗ buf (F := F) (e := .i32) d L bL (labWin Lb (R0 L)) ∗ ow d L O W₀)
          -∗ WP (kk ⟨slabW t 2#32, mk L Lb (4 * t.val + 2) t 2#32, sf L Lb (4 * t.val + 2) t 2#32⟩) Q) -∗ WP (P5 L t >>= kk) Q) := by
  have ht : t.val < 32 := t.isLt
  have hs := slab_in L (g := 4 * t.val + 2) (by omega)
  have hb : t.val / 8 < 4 := by omega
  have hR : gR L (4 * t.val + 2) = R0 L + 8 * (t.val / 8) := gR_trip L t 2
  have h0 : cW t.val 2#32 = BitVec.ofNat 32 (gC (4 * t.val + 2)) := gC_trip t 2
  have hw : Scalar.muli (Scalar.shrsi (slabW t.val 2#32) 5#32) 8#32 = BitVec.ofNat 32 (8 * (t.val / 8)) := slabW_band t 2
  have hsf := sf_ok' L Lb t (by omega) h0
  unfold P5 k0_part5
  unfold St xp oq ot
  simp only [bind_assoc, pure_bind, Nat.add_sub_cancel]
  by_cases ht1 : t.val < 31
  · have hc : k0_cond3 t = 1#1 := (cond3_iff t).2 ht1
    simp only [dif_pos hc, dif_pos (cond4_eq t), bind_assoc, pure_bind]
    rw [if_pos (show 4 * t.val + 4 < 128 by omega), if_pos (show t.val + 1 < 32 by omega), if_pos (show 1 ≤ 4 * t.val + 1 ∧ 4 * t.val + 1 ≤ 124 by omega)]
    iintro ⟨Hb, Ho, Hs, Hp, Hi, Hxn, Hf, Hl, HO, #Hmw⟩ Hk
    iapply (wp_out d L (by decide) b1 cc0_scratch12.sem (outG X Lb) (off25_1 L t)) $$ [Hb Ho Hs]
    · isplitl [Hb]
      · iapply (Entails.of_eq (congrArg (buf d L b1) (scaled_all (T := 192) rfl X Lb _ _))) $$ Hb
      isplitl [Ho]; · iexact Ho
      iexact Hs
    iintro Ho
    iapply (wp_outW d L b0 cc0_scratch11.sem (outG X Lb) _ _) $$ [Hp HO]
    · isplitl [Hp]; · iexact Hp
      isplitl [HO]; · iexact HO
      iexact Hmw
    iintro ⟨⟨Hq, Hbn⟩, Hso, HO⟩
    iapply (wp_in d L (by decide) b0 cc0_scratch7.sem X (off27_eq L t hc)) $$ [Hbn Hxn Hi]
    · isplitl [Hxn]; · iexact Hxn
      isplitl [Hbn]; · iexists _; iexact Hbn
      iexact Hi
    iintro Hi
    iapply (wp_inW d L b2 cc0_scratch9.sem X _ _) $$ [Hf HO]
    · isplitl [Hf]; · iexact Hf
      isplitl [HO]; · iexact HO
      iexact Hmw
    iintro ⟨⟨Hb, Hx⟩, Hv, HO⟩
    iapply (wp_chk d L (bandIdx_lt hw hb))
    iapply (wp_labels d L Lb (R0 L) hw hb) $$ Hl
    iintro Hl
    rw [← hR]
    iapply Hk
    isplitl [Ho]; · iexact Ho
    isplitl [Hi Hso]
    · isplitl [Hi]; · iexact Hi
      iexact Hso
    isplitl [Hq]; · iexact Hq
    isplitl [Hb]; · iexact Hb
    isplitl [Hx]; · iexact Hx
    isplitl [Hv]; · iexact Hv
    isplitl [Hl]; · iexact Hl
    iexact HO
  · have hc : ¬ k0_cond3 t = 1#1 := fun h => ht1 ((cond3_iff t).1 h)
    simp only [dif_neg hc, bind_assoc, pure_bind]
    rw [if_neg (show ¬ 4 * t.val + 4 < 128 by omega), if_neg (show ¬ t.val + 1 < 32 by omega), if_neg (show ¬ (1 ≤ 4 * t.val + 1 ∧ 4 * t.val + 1 ≤ 124) by omega)]
    iintro ⟨Hb, Ho, Hs, Hp, Hi, Hxn, Hf, Hl, HO, #Hmw⟩ Hk
    iapply (wp_out d L (by decide) b1 cc0_scratch12.sem (outG X Lb) (off25_1 L t)) $$ [Hb Ho Hs]
    · isplitl [Hb]
      · iapply (Entails.of_eq (congrArg (buf d L b1) (scaled_all (T := 192) rfl X Lb _ _))) $$ Hb
      isplitl [Ho]; · iexact Ho
      iexact Hs
    iintro Ho
    iapply (wp_inW d L b2 cc0_scratch9.sem X _ _) $$ [Hf HO]
    · isplitl [Hf]; · iexact Hf
      isplitl [HO]; · iexact HO
      iexact Hmw
    iintro ⟨⟨Hb, Hx⟩, Hv, HO⟩
    iapply (wp_chk d L (bandIdx_lt hw hb))
    iapply (wp_labels d L Lb (R0 L) hw hb) $$ Hl
    iintro Hl
    rw [← hR]
    iapply Hk
    isplitl [Ho]; · iexact Ho
    isplitl [Hp Hi]
    · isplitl [Hp]; · iexact Hp
      iexact Hi
    isplitr; · iempintro
    isplitl [Hb]; · iexact Hb
    isplitl [Hx]; · iexact Hx
    isplitl [Hv]; · iexact Hv
    isplitl [Hl]; · iexact Hl
    iexact HO

/-- Part 6 of the program, on the tile's own buffers. -/
abbrev P6 (Lb : S1024.Idx → BitVec 32) (t : Fin k0_t1_loop.trips) :=
  k0_part6 (F := F) L xV (Memref.isWhole_whole _) lV (Memref.isWhole_whole _) oV (Memref.isWhole_whole _) b0 (Memref.isWhole_whole _) b1 (Memref.isWhole_whole _)
    b2 (Memref.isWhole_whole _) b3 (Memref.isWhole_whole _) bR (Memref.isWhole_whole _) bT (Memref.isWhole_whole _) bL (Memref.isWhole_whole _)
    cc0_scratch7 cc0_scratch8 cc0_scratch9 cc0_scratch10 cc0_scratch11 cc0_scratch12 cc0_scratch13 cc0_scratch14 cc0_scoped0 cc0_scoped1 cc0_scoped2 cc0_scoped3 cc0_scoped4
    lane8 (mk L Lb (4 * t.val + 2) t 2#32) (sf L Lb (4 * t.val + 2) t 2#32)

set_option maxHeartbeats 4000000 in
/-- The third buffer: its labels' elements are replaced and its first seven rows scaled. -/
theorem part6 (X : Buf (Elt F) (xLoc d)) (Lb : S1024.Idx → BitVec 32) (t : Fin k0_t1_loop.trips)
    (O : CellTallies nD τ sig (HIx 1)) (W₀ : Waits sig (HIx 1)) {α : Type} {Q : α → sProp 𝕄} {kk : _ → TProg F L α} :
    iprop(buf (F := F) (e := .f32) d L b2 (win 3072 X (gR L (4 * t.val + 2)) (gC (4 * t.val + 2))))
      ⊢ iprop((iprop(buf (F := F) (e := .f32) d L b2 (scaled 192 (7 * 192) (win 3072 (fixed X Lb) (gR L (4 * t.val + 2)) (gC (4 * t.val + 2)))))
          -∗ WP (kk ⟨⟩) Q) -∗ WP (P6 L Lb t >>= kk) Q) := by
  have ht : t.val < 32 := t.isLt
  have hs := slab_in L (g := 4 * t.val + 2) (by omega)
  have hb : t.val / 8 < 4 := by omega
  have hR : gR L (4 * t.val + 2) = R0 L + 8 * (t.val / 8) := gR_trip L t 2
  have h0 : cW t.val 2#32 = BitVec.ofNat 32 (gC (4 * t.val + 2)) := gC_trip t 2
  have hw : Scalar.muli (Scalar.shrsi (slabW t.val 2#32) 5#32) 8#32 = BitVec.ofNat 32 (8 * (t.val / 8)) := slabW_band t 2
  have hsf := sf_ok' L Lb t (by omega) h0
  unfold P6 k0_part6
  simp only [bind_assoc, pure_bind]
  iintro Hb Hk
  iapply (wp_chk d L ⟨hsf, hsf⟩)
  iapply (wp_gather d L b2) $$ Hb
  iintro Hb
  iapply (wp_fix d L b2 X Lb h0 rfl hs.1 hs.2) $$ Hb
  iintro Hb
  ihave Hb := (Entails.of_eq (congrArg (buf (F := F) (e := .f32) d L b2) (show _ = scaled 192 (0 * 192) (win 3072 (fixed X Lb) (gR L (4 * t.val + 2)) (gC (4 * t.val + 2))) from (scaled_zero 192 _).symm))) $$ Hb
  iapply (wp_row (T := 192) d L b2 k0_t18_loop k0_t18_ok 0 k0_off28 rfl k0_off28_eq rfl _) $$ Hb
  iintro Hb
  iapply (wp_row (T := 192) d L b2 k0_t19_loop k0_t19_ok 1 k0_off29 rfl k0_off29_eq rfl _) $$ Hb
  iintro Hb
  iapply (wp_row (T := 192) d L b2 k0_t20_loop k0_t20_ok 2 k0_off30 rfl k0_off30_eq rfl _) $$ Hb
  iintro Hb
  iapply (wp_row (T := 192) d L b2 k0_t21_loop k0_t21_ok 3 k0_off31 rfl k0_off31_eq rfl _) $$ Hb
  iintro Hb
  iapply (wp_row (T := 192) d L b2 k0_t22_loop k0_t22_ok 4 k0_off32 rfl k0_off32_eq rfl _) $$ Hb
  iintro Hb
  iapply (wp_row (T := 192) d L b2 k0_t23_loop k0_t23_ok 5 k0_off33 rfl k0_off33_eq rfl _) $$ Hb
  iintro Hb
  iapply (wp_row (T := 192) d L b2 k0_t24_loop k0_t24_ok 6 k0_off34 rfl k0_off34_eq rfl _) $$ Hb
  iintro Hb
  iapply Hk
  iexact Hb

end Part

end Cert.Proof.Arc

end
-- ==== Proof.Part7.lean ====
module

public import proofs.«01_k».proof.Proof.State

@[expose] public section

noncomputable section

namespace Cert.Proof.Arc

open Cert.KernelIdeal Cert.KernelIdeal.Gen
open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Tactic

variable {F : FTy → Type}

local notation "𝕄" => MT nD τ sig (HIx 1) (Elt F) ℕ UU ℕ

section Part

variable [FloatOps F] [Named F] (d : Dev nD) (L : grid0.Coords)

local notation "WP" => wp frame (wpE (defs₀ (F := F)) 𝒱₀ (thr d L) none) Set.univ

/-- Part 7 of the program, on the tile's own buffers. -/
abbrev P7 (t : Fin k0_t1_loop.trips) :=
  k0_part7 (F := F) L xV (Memref.isWhole_whole _) lV (Memref.isWhole_whole _) oV (Memref.isWhole_whole _) b0 (Memref.isWhole_whole _) b1 (Memref.isWhole_whole _)
    b2 (Memref.isWhole_whole _) b3 (Memref.isWhole_whole _) bR (Memref.isWhole_whole _) bT (Memref.isWhole_whole _) bL (Memref.isWhole_whole _)
    cc0_scratch7 cc0_scratch8 cc0_scratch9 cc0_scratch10 cc0_scratch11 cc0_scratch12 cc0_scratch13 cc0_scratch14 cc0_scoped0 cc0_scoped1 cc0_scoped2 cc0_scoped3 cc0_scoped4
    (rowW L) lane8 t (Scf.iv 0#32 1#32 t) (slabW t.val 2#32)

set_option maxHeartbeats 4000000 in
/-- The third buffer's last row is scaled and its copy out starts, the second buffer is refilled with slab `4 t + 5` when there is one, and the last buffer's slab arrives. -/
theorem part7 (X : Buf (Elt F) (xLoc d)) (Lb : S1024.Idx → BitVec 32) (t : Fin k0_t1_loop.trips)
    (O : CellTallies nD τ sig (HIx 1)) (W₀ : Waits sig (HIx 1)) {α : Type} {Q : α → sProp 𝕄} {kk : _ → TProg F L α} :
    iprop(buf (F := F) (e := .f32) d L b2 (scaled 192 (7 * 192) (win 3072 (fixed X Lb) (gR L (4 * t.val + 2)) (gC (4 * t.val + 2)))) ∗ ot (F := F) d L (4 * t.val + 2) ∗ semVal (thr d L, .dma cc0_scratch13.sem) 0 ∗ outFl d L (outG X Lb) b1 cc0_scratch12.sem (gR L (4 * t.val + 1)) (gC (4 * t.val + 1)) ∗ semVal (thr d L, .dma cc0_scratch8.sem) 0 ∗ xp d L X (4 * t.val + 5) ∗ inFl d L X b3 cc0_scratch10.sem (gR L (4 * t.val + 3)) (gC (4 * t.val + 3)) ∗ buf (F := F) (e := .i32) d L bL (labWin Lb (R0 L)) ∗ ow d L O W₀ ∗ MayWaits (thr d L) (none : HIx 1) O)
      ⊢ iprop((iprop(outFl d L (outG X Lb) b2 cc0_scratch13.sem (gR L (4 * t.val + 2)) (gC (4 * t.val + 2)) ∗ St d L X (outG X Lb) b1 cc0_scratch8.sem cc0_scratch12.sem (t.val + 1) (4 * t.val + 5) ∗ oq d L (outG X Lb) (4 * t.val + 2) ∗ buf (F := F) (e := .f32) d L b3 (win 3072 X (gR L (4 * t.val + 3)) (gC (4 * t.val + 3))) ∗ (xLoc d ↦[pcs (gR L (4 * t.val + 3)) (gC (4 * t.val + 3)) 3072]{fullShare} X) ∗ semVal (thr d L, .dma cc0_scratch10.sem) 0 ∗ buf (F := F) (e := .i32) d L bL (labWin Lb (R0 L)) ∗ ow d L O W₀)
          -∗ WP (kk ⟨slabW t 3#32, locV (labVec Lb (gR L (4 * t.val + 3))) (cW t 3#32), broadcast S16 0#32⟩) Q) -∗ WP (P7 L t >>= kk) Q) := by
  have ht : t.val < 32 := t.isLt
  have hs := slab_in L (g := 4 * t.val + 3) (by omega)
  have hb : t.val / 8 < 4 := by omega
  have hR : gR L (4 * t.val + 3) = R0 L + 8 * (t.val / 8) := gR_trip L t 3
  have h0 : cW t.val 3#32 = BitVec.ofNat 32 (gC (4 * t.val + 3)) := gC_trip t 3
  have hw : Scalar.muli (Scalar.shrsi (slabW t.val 3#32) 5#32) 8#32 = BitVec.ofNat 32 (8 * (t.val / 8)) := slabW_band t 3
  have hsf := sf_ok' L Lb t (by omega) h0
  unfold P7 k0_part7
  unfold St xp oq ot
  simp only [bind_assoc, pure_bind, show 4 * t.val + 5 - 4 = 4 * t.val + 1 from by omega, show 4 * t.val + 2 - 1 = 4 * t.val + 1 from by omega]
  by_cases ht1 : t.val < 31
  · have hc : k0_cond5 t = 1#1 := (cond5_iff t).2 ht1
    simp only [dif_pos hc, dif_pos (cond6_eq t), bind_assoc, pure_bind]
    rw [if_pos (show 4 * t.val + 5 < 128 by omega), if_pos (show t.val + 1 < 32 by omega), if_pos (show 1 ≤ 4 * t.val + 2 ∧ 4 * t.val + 2 ≤ 124 by omega)]
    iintro ⟨Hb, Ho, Hs, Hp, Hi, Hxn, Hf, Hl, HO, #Hmw⟩ Hk
    iapply (wp_row (T := 192) d L b2 k0_t25_loop k0_t25_ok 7 k0_off35 rfl k0_off35_eq rfl _) $$ Hb
    iintro Hb
    iapply (wp_out d L (by decide) b2 cc0_scratch13.sem (outG X Lb) (off36_2 L t)) $$ [Hb Ho Hs]
    · isplitl [Hb]
      · iapply (Entails.of_eq (congrArg (buf d L b2) (scaled_all (T := 192) rfl X Lb _ _))) $$ Hb
      isplitl [Ho]; · iexact Ho
      iexact Hs
    iintro Ho
    iapply (wp_outW d L b1 cc0_scratch12.sem (outG X Lb) _ _) $$ [Hp HO]
    · isplitl [Hp]; · iexact Hp
      isplitl [HO]; · iexact HO
      iexact Hmw
    iintro ⟨⟨Hq, Hbn⟩, Hso, HO⟩
    iapply (wp_in d L (by decide) b1 cc0_scratch8.sem X (off38_eq L t hc)) $$ [Hbn Hxn Hi]
    · isplitl [Hxn]; · iexact Hxn
      isplitl [Hbn]; · iexists _; iexact Hbn
      iexact Hi
    iintro Hi
    iapply (wp_inW d L b3 cc0_scratch10.sem X _ _) $$ [Hf HO]
    · isplitl [Hf]; · iexact Hf
      isplitl [HO]; · iexact HO
      iexact Hmw
    iintro ⟨⟨Hb, Hx⟩, Hv, HO⟩
    iapply (wp_chk d L (bandIdx_lt hw hb))
    iapply (wp_labels d L Lb (R0 L) hw hb) $$ Hl
    iintro Hl
    rw [← hR]
    iapply Hk
    isplitl [Ho]; · iexact Ho
    isplitl [Hi Hso]
    · isplitl [Hi]; · iexact Hi
      iexact Hso
    isplitl [Hq]; · iexact Hq
    isplitl [Hb]; · iexact Hb
    isplitl [Hx]; · iexact Hx
    isplitl [Hv]; · iexact Hv
    isplitl [Hl]; · iexact Hl
    iexact HO
  · have hc : ¬ k0_cond5 t = 1#1 := fun h => ht1 ((cond5_iff t).1 h)
    simp only [dif_neg hc, bind_assoc, pure_bind]
    rw [if_neg (show ¬ 4 * t.val + 5 < 128 by omega), if_neg (show ¬ t.val + 1 < 32 by omega), if_neg (show ¬ (1 ≤ 4 * t.val + 2 ∧ 4 * t.val + 2 ≤ 124) by omega)]
    iintro ⟨Hb, Ho, Hs, Hp, Hi, Hxn, Hf, Hl, HO, #Hmw⟩ Hk
    iapply (wp_row (T := 192) d L b2 k0_t25_loop k0_t25_ok 7 k0_off35 rfl k0_off35_eq rfl _) $$ Hb
    iintro Hb
    iapply (wp_out d L (by decide) b2 cc0_scratch13.sem (outG X Lb) (off36_2 L t)) $$ [Hb Ho Hs]
    · isplitl [Hb]
      · iapply (Entails.of_eq (congrArg (buf d L b2) (scaled_all (T := 192) rfl X Lb _ _))) $$ Hb
      isplitl [Ho]; · iexact Ho
      iexact Hs
    iintro Ho
    iapply (wp_inW d L b3 cc0_scratch10.sem X _ _) $$ [Hf HO]
    · isplitl [Hf]; · iexact Hf
      isplitl [HO]; · iexact HO
      iexact Hmw
    iintro ⟨⟨Hb, Hx⟩, Hv, HO⟩
    iapply (wp_chk d L (bandIdx_lt hw hb))
    iapply (wp_labels d L Lb (R0 L) hw hb) $$ Hl
    iintro Hl
    rw [← hR]
    iapply Hk
    isplitl [Ho]; · iexact Ho
    isplitl [Hp Hi]
    · isplitl [Hp]; · iexact Hp
      iexact Hi
    isplitr; · iempintro
    isplitl [Hb]; · iexact Hb
    isplitl [Hx]; · iexact Hx
    isplitl [Hv]; · iexact Hv
    isplitl [Hl]; · iexact Hl
    iexact HO

/-- Part 8 of the program, on the tile's own buffers. -/
abbrev P8 (Lb : S1024.Idx → BitVec 32) (t : Fin k0_t1_loop.trips) :=
  k0_part8 (F := F) L xV (Memref.isWhole_whole _) lV (Memref.isWhole_whole _) oV (Memref.isWhole_whole _) b0 (Memref.isWhole_whole _) b1 (Memref.isWhole_whole _)
    b2 (Memref.isWhole_whole _) b3 (Memref.isWhole_whole _) bR (Memref.isWhole_whole _) bT (Memref.isWhole_whole _) bL (Memref.isWhole_whole _)
    cc0_scratch7 cc0_scratch8 cc0_scratch9 cc0_scratch10 cc0_scratch11 cc0_scratch12 cc0_scratch13 cc0_scratch14 cc0_scoped0 cc0_scoped1 cc0_scoped2 cc0_scoped3 cc0_scoped4
    lane8 isRow (locV (labVec Lb (gR L (4 * t.val + 3))) (cW t 3#32)) (broadcast S16 0#32)

set_option maxHeartbeats 4000000 in
/-- The last buffer: its labels' elements are replaced and its first five rows scaled. -/
theorem part8 (X : Buf (Elt F) (xLoc d)) (Lb : S1024.Idx → BitVec 32) (t : Fin k0_t1_loop.trips)
    (O : CellTallies nD τ sig (HIx 1)) (W₀ : Waits sig (HIx 1)) {α : Type} {Q : α → sProp 𝕄} {kk : _ → TProg F L α} :
    iprop(buf (F := F) (e := .f32) d L b3 (win 3072 X (gR L (4 * t.val + 3)) (gC (4 * t.val + 3))))
      ⊢ iprop((iprop(buf (F := F) (e := .f32) d L b3 (scaled 192 (5 * 192) (win 3072 (fixed X Lb) (gR L (4 * t.val + 3)) (gC (4 * t.val + 3)))))
          -∗ WP (kk 0#32) Q) -∗ WP (P8 L Lb t >>= kk) Q) := by
  have ht : t.val < 32 := t.isLt
  have hs := slab_in L (g := 4 * t.val + 3) (by omega)
  have hb : t.val / 8 < 4 := by omega
  have hR : gR L (4 * t.val + 3) = R0 L + 8 * (t.val / 8) := gR_trip L t 3
  have h0 : cW t.val 3#32 = BitVec.ofNat 32 (gC (4 * t.val + 3)) := gC_trip t 3
  have hw : Scalar.muli (Scalar.shrsi (slabW t.val 3#32) 5#32) 8#32 = BitVec.ofNat 32 (8 * (t.val / 8)) := slabW_band t 3
  have hsf := sf_ok' L Lb t (by omega) h0
  unfold P8 k0_part8
  simp only [bind_assoc, pure_bind]
  iintro Hb Hk
  iapply (wp_chk d L ⟨hsf, hsf⟩)
  iapply (wp_gather d L b3) $$ Hb
  iintro Hb
  iapply (wp_fix d L b3 X Lb h0 rfl hs.1 hs.2) $$ Hb
  iintro Hb
  ihave Hb := (Entails.of_eq (congrArg (buf (F := F) (e := .f32) d L b3) (show _ = scaled 192 (0 * 192) (win 3072 (fixed X Lb) (gR L (4 * t.val + 3)) (gC (4 * t.val + 3))) from (scaled_zero 192 _).symm))) $$ Hb
  iapply (wp_row (T := 192) d L b3 k0_t26_loop k0_t26_ok 0 k0_off39 rfl k0_off39_eq rfl _) $$ Hb
  iintro Hb
  iapply (wp_row (T := 192) d L b3 k0_t27_loop k0_t27_ok 1 k0_off40 rfl k0_off40_eq rfl _) $$ Hb
  iintro Hb
  iapply (wp_row (T := 192) d L b3 k0_t28_loop k0_t28_ok 2 k0_off41 rfl k0_off41_eq rfl _) $$ Hb
  iintro Hb
  iapply (wp_row (T := 192) d L b3 k0_t29_loop k0_t29_ok 3 k0_off42 rfl k0_off42_eq rfl _) $$ Hb
  iintro Hb
  iapply (wp_row (T := 192) d L b3 k0_t30_loop k0_t30_ok 4 k0_off43 rfl k0_off43_eq rfl _) $$ Hb
  iintro Hb
  iapply Hk
  iexact Hb

end Part

end Cert.Proof.Arc

end
-- ==== Proof.Part15.lean ====
module

public import proofs.«01_k».proof.Proof.Ring
public import proofs.«01_k».proof.Proof.Part1
public import proofs.«01_k».proof.Proof.Part3
public import proofs.«01_k».proof.Proof.Part5
public import proofs.«01_k».proof.Proof.Part7

@[expose] public section

noncomputable section

namespace Cert.Proof.Arc

open Cert.KernelIdeal Cert.KernelIdeal.Gen
open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Tactic

variable {F : FTy → Type}

local notation "𝕄" => MT nD τ sig (HIx 1) (Elt F) ℕ UU ℕ

section Part

variable [FloatOps F] [Named F] (d : Dev nD) (L : grid0.Coords)

local notation "WP" => wp frame (wpE (defs₀ (F := F)) 𝒱₀ (thr d L) none) Set.univ

theorem St3_zero (G : S1024x100000.Idx → F .f32) : St3 d L G 0
    = iprop((∃ y, buf (F := F) (e := .f32) d L b3 y) ∗ semVal (thr d L, .dma cc0_scratch14.sem) 0 ∗ semVal (thr d L, .dma cc0_scratch10.sem) 0) := if_pos rfl
theorem St3_pos (G : S1024x100000.Idx → F .f32) {t : ℕ} (h : t ≠ 0) : St3 d L G t
    = iprop(outFl d L G b3 cc0_scratch14.sem (gR L (4 * t - 1)) (gC (4 * t - 1)) ∗ semVal (thr d L, .dma cc0_scratch10.sem) 0) := if_neg h
theorem xp_pos (X : Buf (Elt F) (xLoc d)) {k : ℕ} (h : k < 128) : xp d L X k = iprop(xLoc d ↦[pcs (gR L k) (gC k) 3072]{fullShare} X) := if_pos h
theorem oq_pos (G : Buf (Elt F) (oLoc d)) {k : ℕ} (h : 1 ≤ k ∧ k ≤ 124) :
    oq d L G k = iprop(oLoc d ↦[pcs (gR L (k - 1)) (gC (k - 1)) 3072]{fullShare} G) := if_pos h
theorem oq_neg (G : Buf (Elt F) (oLoc d)) {k : ℕ} (h : ¬ (1 ≤ k ∧ k ≤ 124)) : oq d L G k = iprop(emp) := if_neg h
theorem St_pos (X G : S1024x100000.Idx → F .f32) (b : Memref sig .scVector .vmem (S8 3072) .f32) (smI smO : DmaSem sig) {t : ℕ} (g : ℕ) (h : t < 32) :
    St d L X G b smI smO t g = iprop(inFl d L X b smI (gR L g) (gC g) ∗ semVal (thr d L, .dma smO) 0) := if_pos h
theorem St_neg (X G : S1024x100000.Idx → F .f32) (b : Memref sig .scVector .vmem (S8 3072) .f32) (smI smO : DmaSem sig) {t : ℕ} (g : ℕ) (h : ¬ t < 32) :
    St d L X G b smI smO t g = iprop(outFl d L G b smO (gR L (g - 4)) (gC (g - 4)) ∗ semVal (thr d L, .dma smI) 0) := if_neg h

/-- Part 15 of the program, on the tile's own buffers. -/
abbrev P15  :=
  k0_part15 (F := F) L xV (Memref.isWhole_whole _) lV (Memref.isWhole_whole _) oV (Memref.isWhole_whole _) b0 (Memref.isWhole_whole _) b1 (Memref.isWhole_whole _)
    b2 (Memref.isWhole_whole _) b3 (Memref.isWhole_whole _) bR (Memref.isWhole_whole _) bT (Memref.isWhole_whole _) bL (Memref.isWhole_whole _)
    cc0_scratch7 cc0_scratch8 cc0_scratch9 cc0_scratch10 cc0_scratch11 cc0_scratch12 cc0_scratch13 cc0_scratch14 cc0_scoped0 cc0_scoped1 cc0_scoped2 cc0_scoped3 cc0_scoped4

set_option maxHeartbeats 8000000 in
/-- The tile's labels arrive, the ring's first three slabs start on their way, the ring's thirty-two trips run, and the first buffer's last copy out arrives. -/
theorem part15 (X : Buf (Elt F) (xLoc d)) (Lb : S1024.Idx → BitVec 32)
    (O : CellTallies nD τ sig (HIx 1)) (W₀ : Waits sig (HIx 1)) {α : Type} {Q : α → sProp 𝕄} {kk : _ → TProg F L α} :
    iprop(((lLoc d ↦[lpc (R0 L)]{fullShare} Lb) ∗ (∃ y, buf (F := F) (e := .i32) d L bL y) ∗ semVal (thr d L, .dma cc0_scoped0.sem) 0)
        ∗ (xp d L X 0 ∗ xp d L X 1 ∗ xp d L X 2 ∗ bigSep (Finset.range 32) (xt d L X)) ∗ bigSep (Finset.range 32) (otr (F := F) d L)
        ∗ ((∃ y, buf (F := F) (e := .f32) d L b0 y) ∗ (∃ y, buf (F := F) (e := .f32) d L b1 y) ∗ (∃ y, buf (F := F) (e := .f32) d L b2 y) ∗ (∃ y, buf (F := F) (e := .f32) d L b3 y))
        ∗ (semVal (thr d L, .dma cc0_scratch7.sem) 0 ∗ semVal (thr d L, .dma cc0_scratch8.sem) 0 ∗ semVal (thr d L, .dma cc0_scratch9.sem) 0 ∗ semVal (thr d L, .dma cc0_scratch10.sem) 0
          ∗ semVal (thr d L, .dma cc0_scratch11.sem) 0 ∗ semVal (thr d L, .dma cc0_scratch12.sem) 0 ∗ semVal (thr d L, .dma cc0_scratch13.sem) 0 ∗ semVal (thr d L, .dma cc0_scratch14.sem) 0)
        ∗ ow d L O W₀ ∗ MayWaits (thr d L) (none : HIx 1) O)
      ⊢ iprop((iprop(((lLoc d ↦[lpc (R0 L)]{fullShare} Lb) ∗ buf (F := F) (e := .i32) d L bL (labWin Lb (R0 L)) ∗ semVal (thr d L, .dma cc0_scoped0.sem) 0)
          ∗ bigSep (Finset.range 32) (xd d L X) ∗ bigSep (Finset.range 32) (od d L (outG X Lb))
          ∗ ((oLoc d ↦[pcs (gR L 124) (gC 124) 3072]{fullShare} outG X Lb) ∗ (∃ y, buf (F := F) (e := .f32) d L b0 y) ∗ semVal (thr d L, .dma cc0_scratch11.sem) 0 ∗ semVal (thr d L, .dma cc0_scratch7.sem) 0)
          ∗ (outFl d L (outG X Lb) b1 cc0_scratch12.sem (gR L 125) (gC 125) ∗ semVal (thr d L, .dma cc0_scratch8.sem) 0)
          ∗ (outFl d L (outG X Lb) b2 cc0_scratch13.sem (gR L 126) (gC 126) ∗ semVal (thr d L, .dma cc0_scratch9.sem) 0)
          ∗ (outFl d L (outG X Lb) b3 cc0_scratch14.sem (gR L 127) (gC 127) ∗ semVal (thr d L, .dma cc0_scratch10.sem) 0)
          ∗ ow d L O W₀)
          -∗ WP (kk ⟨rowW L, lane8, isRow⟩) Q) -∗ WP (P15 L >>= kk) Q) := by
  unfold P15 k0_part15
  simp only [bind_assoc, pure_bind]
  iintro ⟨⟨Hlp, HbL, HsL⟩, ⟨Hx0, Hx1, Hx2, Hxt⟩, Hot, ⟨Hb0, Hb1, Hb2, Hb3⟩, ⟨Hi0, Hi1, Hi2, Hi3, Hs0, Hs1, Hs2, Hs3⟩, HO, #Hmw⟩ Hk
  iapply (wp_lab d L cc0_scoped0.sem Lb (off1_eq L)) $$ [Hlp HbL HsL HO]
  · isplitl [Hlp]; · iexact Hlp
    isplitl [HbL]; · iexact HbL
    isplitl [HsL]; · iexact HsL
    isplitl [HO]; · iexact HO
    iexact Hmw
  iintro ⟨Hlp, Hl, HsL, HO⟩
  ihave Hx0 := (Entails.of_eq (xp_pos d L X (show 0 < 128 by omega))) $$ Hx0
  iapply (wp_in d L (by decide) b0 cc0_scratch7.sem X (off2_eq L)) $$ [Hb0 Hx0 Hi0]
  · isplitl [Hx0]; · iexact Hx0
    isplitl [Hb0]; · iexact Hb0
    iexact Hi0
  iintro H0
  ihave Hx1 := (Entails.of_eq (xp_pos d L X (show 1 < 128 by omega))) $$ Hx1
  iapply (wp_in d L (by decide) b1 cc0_scratch8.sem X (off3_eq L)) $$ [Hb1 Hx1 Hi1]
  · isplitl [Hx1]; · iexact Hx1
    isplitl [Hb1]; · iexact Hb1
    iexact Hi1
  iintro H1
  ihave Hx2 := (Entails.of_eq (xp_pos d L X (show 2 < 128 by omega))) $$ Hx2
  iapply (wp_in d L (by decide) b2 cc0_scratch9.sem X (off4_eq L)) $$ [Hb2 Hx2 Hi2]
  · isplitl [Hx2]; · iexact Hx2
    isplitl [Hb2]; · iexact Hb2
    iexact Hi2
  iintro H2
  iapply (Scf.wp_for_bind frame (wpE (defs₀ (F := F)) 𝒱₀ (thr d L) none) Set.univ k0_t1_loop.lb k0_t1_loop.ub k0_t1_loop.st k0_t1_ok (⟨⟩ : PUnit.{1}) _
    (fun n _ => Ring d L X (outG X Lb) Lb O W₀ n) ?hb) $$ [H0 H1 H2 Hb3 Hs0 Hs1 Hs2 Hs3 Hi3 Hxt Hot Hl HO]
  case hb =>
    intro t acc
    have ht : t.val < 32 := t.isLt
    have h0 : cW t.val 1#32 = BitVec.ofNat 32 (gC (4 * t.val + 1)) := gC_trip t 1
    have hsf := sf_ok' L Lb t (show 4 * t.val + 1 < 128 by omega) h0
    iintro H
    unfold Ring
    rw [St_pos d L _ _ _ _ _ _ ht, St_pos d L _ _ _ _ _ _ ht, St_pos d L _ _ _ _ _ _ ht]
    icases H with ⟨⟨H0, Hs0⟩, ⟨H1, Hs1⟩, ⟨H2, Hs2⟩, H3, Hxs, Hos, Hl, HO, #Hmw⟩
    ihave Hxs := (bigSep_next 32 t.val ht (xd d L X) (xt d L X)) $$ Hxs
    icases Hxs with ⟨Hxt, Hxc⟩
    ihave Hos := (bigSep_next 32 t.val ht (od d L (outG X Lb)) (otr (F := F) d L)) $$ Hos
    icases Hos with ⟨Hot, Hoc⟩
    ihave Hxt := (Entails.of_eq (show xt d L X t.val = iprop(xp d L X (4 * t.val + 3) ∗ xp d L X (4 * t.val + 4) ∗ xp d L X (4 * t.val + 5) ∗ xp d L X (4 * t.val + 6)) from rfl)) $$ Hxt
    icases Hxt with ⟨Hx3, Hx4, Hx5, Hx6⟩
    ihave Hot := (Entails.of_eq (show otr (F := F) d L t.val = iprop(ot (F := F) d L (4 * t.val + 0) ∗ ot (F := F) d L (4 * t.val + 1) ∗ ot (F := F) d L (4 * t.val + 2) ∗ ot (F := F) d L (4 * t.val + 3)) from rfl)) $$ Hot
    icases Hot with ⟨Ho0, Ho1, Ho2, Ho3⟩
    iapply (part1 d L X Lb t O W₀) $$ [H0 Hl HO]
    · isplitl [H0]; · iexact H0
      isplitl [Hl]; · iexact Hl
      isplitl [HO]; · iexact HO
      iexact Hmw
    iintro ⟨Hb0, Hx0, Hi0, Hl, HO⟩
    dsimp only
    iapply (part2 d L X Lb t O W₀) $$ [Hb0 Ho0 Hs0]
    · isplitl [Hb0]; · iexact Hb0
      isplitl [Ho0]; · iexact Ho0
      iexact Hs0
    iintro Ho0
    dsimp only
    iapply (part3 d L X Lb t O W₀ ⟨hsf, hsf⟩) $$ [H3 Hx3 H1 Hl HO]
    · isplitl [H3]; · iexact H3
      isplitl [Hx3]; · iexact Hx3
      isplitl [H1]; · iexact H1
      isplitl [Hl]; · iexact Hl
      isplitl [HO]; · iexact HO
      iexact Hmw
    iintro ⟨H3, Hs3, Hq0, Hb1, Hx1, Hi1, Hl, HO⟩
    dsimp only
    iapply (part4 d L X Lb t O W₀ ⟨hsf, hsf⟩) $$ [Hb1]
    · iexact Hb1
    iintro Hb1
    dsimp only
    iapply (part5 d L X Lb t O W₀) $$ [Hb1 Ho1 Hs1 Ho0 Hi0 Hx4 H2 Hl HO]
    · isplitl [Hb1]; · iexact Hb1
      isplitl [Ho1]; · iexact Ho1
      isplitl [Hs1]; · iexact Hs1
      isplitl [Ho0]; · iexact Ho0
      isplitl [Hi0]; · iexact Hi0
      isplitl [Hx4]; · iexact Hx4
      isplitl [H2]; · iexact H2
      isplitl [Hl]; · iexact Hl
      isplitl [HO]; · iexact HO
      iexact Hmw
    iintro ⟨Ho1, HS0, Hq1, Hb2, Hx2, Hi2, Hl, HO⟩
    dsimp only
    iapply (part6 d L X Lb t O W₀) $$ [Hb2]
    · iexact Hb2
    iintro Hb2
    dsimp only
    iapply (part7 d L X Lb t O W₀) $$ [Hb2 Ho2 Hs2 Ho1 Hi1 Hx5 H3 Hl HO]
    · isplitl [Hb2]; · iexact Hb2
      isplitl [Ho2]; · iexact Ho2
      isplitl [Hs2]; · iexact Hs2
      isplitl [Ho1]; · iexact Ho1
      isplitl [Hi1]; · iexact Hi1
      isplitl [Hx5]; · iexact Hx5
      isplitl [H3]; · iexact H3
      isplitl [Hl]; · iexact Hl
      isplitl [HO]; · iexact HO
      iexact Hmw
    iintro ⟨Ho2, HS1, Hq2, Hb, Hx3d, Hi3, Hl, HO⟩
    dsimp only
    iapply (part8 d L X Lb t O W₀) $$ [Hb]
    · iexact Hb
    iintro Hb
    dsimp only
    iapply (wp_row (T := 192) d L b3 k0_t31_loop k0_t31_ok 5 k0_off44 rfl k0_off44_eq rfl _) $$ Hb
    iintro Hb
    iapply (wp_row (T := 192) d L b3 k0_t32_loop k0_t32_ok 6 k0_off45 rfl k0_off45_eq rfl _) $$ Hb
    iintro Hb
    iapply (wp_row (T := 192) d L b3 k0_t33_loop k0_t33_ok 7 k0_off46 rfl k0_off46_eq rfl _) $$ Hb
    iintro Hb
    unfold ot
    iapply (wp_out d L (by decide) b3 cc0_scratch14.sem (outG X Lb) (off47_eq L t)) $$ [Hb Ho3 Hs3]
    · isplitl [Hb]
      · iapply (Entails.of_eq (congrArg (buf d L b3) (scaled_all (T := 192) rfl X Lb _ _))) $$ Hb
      isplitl [Ho3]; · iexact Ho3
      iexact Hs3
    iintro Ho3
    by_cases ht1 : t.val < 31
    · have hc : k0_cond7 t = 1#1 := (cond7_iff t).2 ht1
      simp only [dif_pos hc, dif_pos (cond8_eq t), bind_assoc, pure_bind]
      ihave Hx6 := (Entails.of_eq (xp_pos d L X (show 4 * t.val + 6 < 128 by omega))) $$ Hx6
      iapply (wp_outW d L b2 cc0_scratch13.sem (outG X Lb) _ _) $$ [Ho2 HO]
      · isplitl [Ho2]; · iexact Ho2
        isplitl [HO]; · iexact HO
        iexact Hmw
      iintro ⟨⟨Hq3, Hbn⟩, Hso, HO⟩
      iapply (wp_in d L (by decide) b2 cc0_scratch9.sem X (off49_eq L t hc)) $$ [Hbn Hx6 Hi2]
      · isplitl [Hx6]; · iexact Hx6
        isplitl [Hbn]; · iexists _; iexact Hbn
        iexact Hi2
      iintro Hi2
      ihave HS2 := (Entails.of_eq (St_pos d L X (outG X Lb) b2 cc0_scratch9.sem cc0_scratch13.sem (4 * t.val + 6) (show t.val + 1 < 32 by omega)).symm) $$ [Hi2 Hso]
      · isplitl [Hi2]; · iexact Hi2
        iexact Hso
      ihave Hq3 := (Entails.of_eq (oq_pos d L (outG X Lb) (show 1 ≤ 4 * t.val + 3 ∧ 4 * t.val + 3 ≤ 124 by omega)).symm) $$ [Hq3]
      · iexact Hq3
      rw [Prog.pure_eq_ret, wp_ret]
      imodintro
      isplitl [HS0]; · iexact HS0
      isplitl [HS1]; · iexact HS1
      isplitl [HS2]; · iexact HS2
      isplitl [Ho3 Hi3]
      · iapply (Entails.of_eq (St3_pos d L (outG X Lb) (show t.val + 1 ≠ 0 by omega)).symm)
        isplitl [Ho3]; · iexact Ho3
        iexact Hi3
      isplitl [Hxc Hx0 Hx1 Hx2 Hx3d]
      · iapply Hxc
        unfold xd
        isplitl [Hx0]; · iexact Hx0
        isplitl [Hx1]; · iexact Hx1
        isplitl [Hx2]; · iexact Hx2
        iexact Hx3d
      isplitl [Hoc Hq0 Hq1 Hq2 Hq3]
      · iapply Hoc
        unfold od
        isplitl [Hq0]; · iexact Hq0
        isplitl [Hq1]; · iexact Hq1
        isplitl [Hq2]; · iexact Hq2
        iexact Hq3
      isplitl [Hl]; · iexact Hl
      isplitl [HO]; · iexact HO
      iexact Hmw

    · have hc : ¬ k0_cond7 t = 1#1 := fun h => ht1 ((cond7_iff t).1 h)
      simp only [dif_neg hc, bind_assoc, pure_bind]
      ihave HS2 := (Entails.of_eq (St_neg d L X (outG X Lb) b2 cc0_scratch9.sem cc0_scratch13.sem (4 * t.val + 6) (show ¬ t.val + 1 < 32 by omega)).symm) $$ [Ho2 Hi2]
      · isplitl [Ho2]; · iexact Ho2
        iexact Hi2
      ihave Hq3 := (Entails.of_eq (oq_neg d L (outG X Lb) (show ¬ (1 ≤ 4 * t.val + 3 ∧ 4 * t.val + 3 ≤ 124) by omega)).symm) $$ []
      · iempintro
      rw [Prog.pure_eq_ret, wp_ret]
      imodintro
      isplitl [HS0]; · iexact HS0
      isplitl [HS1]; · iexact HS1
      isplitl [HS2]; · iexact HS2
      isplitl [Ho3 Hi3]
      · iapply (Entails.of_eq (St3_pos d L (outG X Lb) (show t.val + 1 ≠ 0 by omega)).symm)
        isplitl [Ho3]; · iexact Ho3
        iexact Hi3
      isplitl [Hxc Hx0 Hx1 Hx2 Hx3d]
      · iapply Hxc
        unfold xd
        isplitl [Hx0]; · iexact Hx0
        isplitl [Hx1]; · iexact Hx1
        isplitl [Hx2]; · iexact Hx2
        iexact Hx3d
      isplitl [Hoc Hq0 Hq1 Hq2 Hq3]
      · iapply Hoc
        unfold od
        isplitl [Hq0]; · iexact Hq0
        isplitl [Hq1]; · iexact Hq1
        isplitl [Hq2]; · iexact Hq2
        iexact Hq3
      isplitl [Hl]; · iexact Hl
      isplitl [HO]; · iexact HO
      iexact Hmw
  · unfold Ring
    rw [St_pos d L _ _ _ _ _ _ (show 0 < 32 by omega), St_pos d L _ _ _ _ _ _ (show 0 < 32 by omega), St_pos d L _ _ _ _ _ _ (show 0 < 32 by omega)]
    isplitl [H0 Hs0]
    · isplitl [H0]; · iexact H0
      iexact Hs0
    isplitl [H1 Hs1]
    · isplitl [H1]; · iexact H1
      iexact Hs1
    isplitl [H2 Hs2]
    · isplitl [H2]; · iexact H2
      iexact Hs2
    isplitl [Hb3 Hs3 Hi3]
    · iapply (Entails.of_eq (St3_zero d L (outG X Lb)).symm)
      isplitl [Hb3]; · iexact Hb3
      isplitl [Hs3]; · iexact Hs3
      iexact Hi3
    isplitl [Hxt]
    · iapply (Entails.of_eq (bigSep_congr fun u _ => (if_neg (Nat.not_lt_zero u)).symm)) $$ Hxt
    isplitl [Hot]
    · iapply (Entails.of_eq (bigSep_congr fun u _ => (if_neg (Nat.not_lt_zero u)).symm)) $$ Hot
    isplitl [Hl]; · iexact Hl
    isplitl [HO]; · iexact HO
    iexact Hmw
  iintro %acc H
  rw [show Scf.trips k0_t1_loop.lb k0_t1_loop.ub k0_t1_loop.st = 32 from trips1]
  unfold Ring
  rw [St_neg d L _ _ _ _ _ _ (show ¬ 32 < 32 by omega), St_neg d L _ _ _ _ _ _ (show ¬ 32 < 32 by omega), St_neg d L _ _ _ _ _ _ (show ¬ 32 < 32 by omega)]
  icases H with ⟨⟨H0, Hi0⟩, ⟨H1, Hi1⟩, ⟨H2, Hi2⟩, H3, Hxs, Hos, Hl, HO, Hmw'⟩
  iapply (wp_outW d L b0 cc0_scratch11.sem (outG X Lb) (gR L 124) (gC 124)) $$ [H0 HO]
  · isplitl [H0]; · iexact H0
    isplitl [HO]; · iexact HO
    iexact Hmw
  iintro ⟨⟨Hq, Hb⟩, Hs0, HO⟩
  iapply Hk
  isplitl [Hlp Hl HsL]
  · isplitl [Hlp]; · iexact Hlp
    isplitl [Hl]; · iexact Hl
    iexact HsL
  isplitl [Hxs]
  · iapply (Entails.of_eq (bigSep_congr fun u hu => if_pos (Finset.mem_range.1 hu))) $$ Hxs
  isplitl [Hos]
  · iapply (Entails.of_eq (bigSep_congr fun u hu => if_pos (Finset.mem_range.1 hu))) $$ Hos
  isplitl [Hq Hb Hs0 Hi0]
  · isplitl [Hq]; · iexact Hq
    isplitl [Hb]; · iexists _; iexact Hb
    isplitl [Hs0]; · iexact Hs0
    iexact Hi0
  isplitl [H1 Hi1]
  · isplitl [H1]; · iexact H1
    iexact Hi1
  isplitl [H2 Hi2]
  · isplitl [H2]; · iexact H2
    iexact Hi2
  isplitl [H3]
  · iapply (Entails.of_eq (St3_pos d L (outG X Lb) (show 32 ≠ 0 by omega))) $$ H3
  iexact HO

end Part

end Cert.Proof.Arc

end
-- ==== Proof.Edge.lean ====
module

public import proofs.«01_k».proof.Proof.Ring

@[expose] public section

noncomputable section

namespace Cert.Proof.Arc

open Cert.KernelIdeal Cert.KernelIdeal.Gen
open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Tactic

variable {F : FTy → Type}

local notation "𝕄" => MT nD τ sig (HIx 1) (Elt F) ℕ UU ℕ

section Part

variable [FloatOps F] [Named F] (d : Dev nD) (L : grid0.Coords)

local notation "WP" => wp frame (wpE (defs₀ (F := F)) 𝒱₀ (thr d L) none) Set.univ

/-- Part 9 of the program, on the tile's own buffers. -/
abbrev P9 (t : Fin k0_t34_loop.trips) :=
  k0_part9 (F := F) L xV (Memref.isWhole_whole _) lV (Memref.isWhole_whole _) oV (Memref.isWhole_whole _) b0 (Memref.isWhole_whole _) b1 (Memref.isWhole_whole _)
    b2 (Memref.isWhole_whole _) b3 (Memref.isWhole_whole _) bR (Memref.isWhole_whole _) bT (Memref.isWhole_whole _) bL (Memref.isWhole_whole _)
    cc0_scratch7 cc0_scratch8 cc0_scratch9 cc0_scratch10 cc0_scratch11 cc0_scratch12 cc0_scratch13 cc0_scratch14 cc0_scoped0 cc0_scoped1 cc0_scoped2 cc0_scoped3 cc0_scoped4
    (rowW L) lane8 isRow 0#32 1#32 t

set_option maxHeartbeats 4000000 in
/-- The band's remainder of 1664 columns arrives, its labels' elements are replaced and its first row is scaled. -/
theorem part9 (X : Buf (Elt F) (xLoc d)) (Lb : S1024.Idx → BitVec 32) (t : Fin k0_t34_loop.trips)
    (O : CellTallies nD τ sig (HIx 1)) (W₀ : Waits sig (HIx 1)) {α : Type} {Q : α → sProp 𝕄} {kk : _ → TProg F L α} :
    iprop((xLoc d ↦[pcs (R0 L + 8 * t.val) 98304 1664]{fullShare} X) ∗ (∃ y, buf (F := F) (e := .f32) d L bR y) ∗ semVal (thr d L, .dma cc0_scoped1.sem) 0 ∗ buf (F := F) (e := .i32) d L bL (labWin Lb (R0 L)) ∗ ow d L O W₀ ∗ MayWaits (thr d L) (none : HIx 1) O)
      ⊢ iprop((iprop(buf (F := F) (e := .f32) d L bR (scaled 104 (1 * 104) (win 1664 (fixed X Lb) (R0 L + 8 * t.val) 98304)) ∗ (xLoc d ↦[pcs (R0 L + 8 * t.val) 98304 1664]{fullShare} X) ∗ semVal (thr d L, .dma cc0_scoped1.sem) 0 ∗ buf (F := F) (e := .i32) d L bL (labWin Lb (R0 L)) ∗ ow d L O W₀)
          -∗ WP (kk ⟨Scf.iv 0#32 1#32 t, 0#32, 104#32⟩) Q) -∗ WP (P9 L t >>= kk) Q) := by
  have ht : t.val < 4 := t.isLt
  have hR8 : R0 L + 8 * t.val + 8 ≤ 1024 := by have := R0_le L; omega
  have hw : Scalar.muli (Scf.iv 0#32 1#32 t.val) 8#32 = BitVec.ofNat 32 (8 * t.val) := bandW t
  have hsf : ∀ a x, ((![lane8, safeV (labVec Lb (R0 L + 8 * t.val)) 98304#32 1664#32] : Fin 2 → IVec S16 32) a x).toNat < (S8 1664).size a :=
    idx_ok (C := 98304) _ rfl rfl (by decide) (by decide)
  unfold P9 k0_part9
  simp only [bind_assoc, pure_bind]
  iintro ⟨Hx, Hb, Hi, Hl, HO, #Hmw⟩ Hk
  iapply (wp_in d L (by decide) bR cc0_scoped1.sem X (off54_eq L t)) $$ [Hb Hx Hi]
  · isplitl [Hx]; · iexact Hx
    isplitl [Hb]; · iexact Hb
    iexact Hi
  iintro Hf
  iapply (wp_inW d L bR cc0_scoped1.sem X _ _) $$ [Hf HO]
  · isplitl [Hf]; · iexact Hf
    isplitl [HO]; · iexact HO
    iexact Hmw
  iintro ⟨⟨Hb, Hx⟩, Hi, HO⟩
  iapply (wp_chk d L (bandIdx_lt hw ht))
  iapply (wp_labels d L Lb (R0 L) hw ht) $$ Hl
  iintro Hl
  iapply (wp_chk d L ⟨hsf, hsf⟩)
  iapply (wp_gather d L bR) $$ Hb
  iintro Hb
  iapply (wp_fix d L bR X Lb (C := 98304) rfl rfl hR8 (by decide)) $$ Hb
  iintro Hb
  ihave Hb := (Entails.of_eq (congrArg (buf (F := F) (e := .f32) d L bR) (show _ = scaled 104 (0 * 104) (win 1664 (fixed X Lb) (R0 L + 8 * t.val) 98304) from (scaled_zero 104 _).symm))) $$ Hb
  iapply (wp_row (T := 104) d L bR k0_t35_loop k0_t35_ok 0 k0_off55 rfl k0_off55_eq rfl _) $$ Hb
  iintro Hb
  iapply Hk
  isplitl [Hb]; · iexact Hb
  isplitl [Hx]; · iexact Hx
  isplitl [Hi]; · iexact Hi
  isplitl [Hl]; · iexact Hl
  iexact HO

/-- Part 10 of the program, on the tile's own buffers. -/
abbrev P10 (t : Fin k0_t34_loop.trips) :=
  k0_part10 (F := F) L xV (Memref.isWhole_whole _) lV (Memref.isWhole_whole _) oV (Memref.isWhole_whole _) b0 (Memref.isWhole_whole _) b1 (Memref.isWhole_whole _)
    b2 (Memref.isWhole_whole _) b3 (Memref.isWhole_whole _) bR (Memref.isWhole_whole _) bT (Memref.isWhole_whole _) bL (Memref.isWhole_whole _)
    cc0_scratch7 cc0_scratch8 cc0_scratch9 cc0_scratch10 cc0_scratch11 cc0_scratch12 cc0_scratch13 cc0_scratch14 cc0_scoped0 cc0_scoped1 cc0_scoped2 cc0_scoped3 cc0_scoped4
    t 0#32 104#32

set_option maxHeartbeats 4000000 in
/-- The remainder's other seven rows are scaled, it is copied out, and the band's last 32 columns arrive. -/
theorem part10 (X : Buf (Elt F) (xLoc d)) (Lb : S1024.Idx → BitVec 32) (t : Fin k0_t34_loop.trips)
    (O : CellTallies nD τ sig (HIx 1)) (W₀ : Waits sig (HIx 1)) {α : Type} {Q : α → sProp 𝕄} {kk : _ → TProg F L α} :
    iprop(buf (F := F) (e := .f32) d L bR (scaled 104 (1 * 104) (win 1664 (fixed X Lb) (R0 L + 8 * t.val) 98304)) ∗ (∃ f : Buf (Elt F) (oLoc d), oLoc d ↦[pcs (R0 L + 8 * t.val) 98304 1664]{fullShare} f) ∗ semVal (thr d L, .dma cc0_scoped2.sem) 0 ∗ (xLoc d ↦[pcs (R0 L + 8 * t.val) 99968 32]{fullShare} X) ∗ (∃ y, buf (F := F) (e := .f32) d L bT y) ∗ semVal (thr d L, .dma cc0_scoped3.sem) 0 ∗ ow d L O W₀ ∗ MayWaits (thr d L) (none : HIx 1) O)
      ⊢ iprop((iprop((oLoc d ↦[pcs (R0 L + 8 * t.val) 98304 1664]{fullShare} outG X Lb) ∗ (∃ y, buf (F := F) (e := .f32) d L bR y) ∗ semVal (thr d L, .dma cc0_scoped2.sem) 0 ∗ buf (F := F) (e := .f32) d L bT (win 32 X (R0 L + 8 * t.val) 99968) ∗ (xLoc d ↦[pcs (R0 L + 8 * t.val) 99968 32]{fullShare} X) ∗ semVal (thr d L, .dma cc0_scoped3.sem) 0 ∗ ow d L O W₀)
          -∗ WP (kk ⟨⟩) Q) -∗ WP (P10 L t >>= kk) Q) := by
  unfold P10 k0_part10
  simp only [bind_assoc, pure_bind]
  iintro ⟨Hb, Ho, Hs, Hx, HbT, Hi, HO, #Hmw⟩ Hk
  iapply (wp_row (T := 104) d L bR k0_t36_loop k0_t36_ok 1 k0_off56 rfl k0_off56_eq rfl _) $$ Hb
  iintro Hb
  iapply (wp_row (T := 104) d L bR k0_t37_loop k0_t37_ok 2 k0_off57 rfl k0_off57_eq rfl _) $$ Hb
  iintro Hb
  iapply (wp_row (T := 104) d L bR k0_t38_loop k0_t38_ok 3 k0_off58 rfl k0_off58_eq rfl _) $$ Hb
  iintro Hb
  iapply (wp_row (T := 104) d L bR k0_t39_loop k0_t39_ok 4 k0_off59 rfl k0_off59_eq rfl _) $$ Hb
  iintro Hb
  iapply (wp_row (T := 104) d L bR k0_t40_loop k0_t40_ok 5 k0_off60 rfl k0_off60_eq rfl _) $$ Hb
  iintro Hb
  iapply (wp_row (T := 104) d L bR k0_t41_loop k0_t41_ok 6 k0_off61 rfl k0_off61_eq rfl _) $$ Hb
  iintro Hb
  iapply (wp_row (T := 104) d L bR k0_t42_loop k0_t42_ok 7 k0_off62 rfl k0_off62_eq rfl _) $$ Hb
  iintro Hb
  iapply (wp_out d L (by decide) bR cc0_scoped2.sem (outG X Lb) (off63_eq L t)) $$ [Hb Ho Hs]
  · isplitl [Hb]
    · iapply (Entails.of_eq (congrArg (buf d L bR) (scaled_all (T := 104) rfl X Lb _ _))) $$ Hb
    isplitl [Ho]; · iexact Ho
    iexact Hs
  iintro Hf
  iapply (wp_outW d L bR cc0_scoped2.sem (outG X Lb) _ _) $$ [Hf HO]
  · isplitl [Hf]; · iexact Hf
    isplitl [HO]; · iexact HO
    iexact Hmw
  iintro ⟨⟨Ho, HbR⟩, Hs, HO⟩
  iapply (wp_in d L (by decide) bT cc0_scoped3.sem X (off64_eq L t)) $$ [HbT Hx Hi]
  · isplitl [Hx]; · iexact Hx
    isplitl [HbT]; · iexact HbT
    iexact Hi
  iintro Hf
  iapply (wp_inW d L bT cc0_scoped3.sem X _ _) $$ [Hf HO]
  · isplitl [Hf]; · iexact Hf
    isplitl [HO]; · iexact HO
    iexact Hmw
  iintro ⟨⟨Hb, Hx⟩, Hi, HO⟩
  iapply Hk
  isplitl [Ho]; · iexact Ho
  isplitl [HbR]; · iexists _; iexact HbR
  isplitl [Hs]; · iexact Hs
  isplitl [Hb]; · iexact Hb
  isplitl [Hx]; · iexact Hx
  isplitl [Hi]; · iexact Hi
  iexact HO

end Part

end Cert.Proof.Arc

end
-- ==== Proof.Body.lean ====
module

public import proofs.«01_k».proof.Proof.Part15
public import proofs.«01_k».proof.Proof.Edge

@[expose] public section

noncomputable section

namespace Cert.Proof.Arc

open Cert.KernelIdeal Cert.KernelIdeal.Gen
open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Tactic

variable {F : FTy → Type}

local notation "𝕄" => MT nD τ sig (HIx 1) (Elt F) ℕ UU ℕ

section Part

variable [FloatOps F] [Named F] (d : Dev nD) (L : grid0.Coords)

local notation "WP" => wp frame (wpE (defs₀ (F := F)) 𝒱₀ (thr d L) none) Set.univ

/-- The last columns of band `u`: the logits', the result's not written, and the result's written. -/
def ex (X : Buf (Elt F) (xLoc d)) (u : ℕ) : sProp 𝕄 :=
  iprop((xLoc d ↦[pcs (R0 L + 8 * u) 98304 1664]{fullShare} X) ∗ (xLoc d ↦[pcs (R0 L + 8 * u) 99968 32]{fullShare} X))
def eo (u : ℕ) : sProp 𝕄 :=
  iprop((∃ f : Buf (Elt F) (oLoc d), oLoc d ↦[pcs (R0 L + 8 * u) 98304 1664]{fullShare} f) ∗ (∃ f : Buf (Elt F) (oLoc d), oLoc d ↦[pcs (R0 L + 8 * u) 99968 32]{fullShare} f))
def ed (X : Buf (Elt F) (xLoc d)) (G : Buf (Elt F) (oLoc d)) (u : ℕ) : sProp 𝕄 :=
  iprop(((xLoc d ↦[pcs (R0 L + 8 * u) 98304 1664]{fullShare} X) ∗ (xLoc d ↦[pcs (R0 L + 8 * u) 99968 32]{fullShare} X))
    ∗ (oLoc d ↦[pcs (R0 L + 8 * u) 98304 1664]{fullShare} G) ∗ (oLoc d ↦[pcs (R0 L + 8 * u) 99968 32]{fullShare} G))

/-- The last columns' loop at the start of trip `t`. -/
def Edges (X G : S1024x100000.Idx → F .f32) (Lb : S1024.Idx → BitVec 32) (O : CellTallies nD τ sig (HIx 1)) (W₀ : Waits sig (HIx 1)) (t : ℕ) : sProp 𝕄 :=
  iprop((∃ y, buf (F := F) (e := .f32) d L bR y) ∗ (∃ y, buf (F := F) (e := .f32) d L bT y)
    ∗ semVal (thr d L, .dma cc0_scoped1.sem) 0 ∗ semVal (thr d L, .dma cc0_scoped2.sem) 0 ∗ semVal (thr d L, .dma cc0_scoped3.sem) 0 ∗ semVal (thr d L, .dma cc0_scoped4.sem) 0
    ∗ bigSep (Finset.range 4) (fun u => if u < t then ed d L X G u else iprop(ex d L X u ∗ eo (F := F) d L u))
    ∗ buf (F := F) (e := .i32) d L bL (labWin Lb (R0 L)) ∗ ow d L O W₀ ∗ MayWaits (thr d L) (none : HIx 1) O)

/-- The whole kernel, on the tile's own buffers. -/
abbrev KB :=
  cc0_k (F := F) L xV (Memref.isWhole_whole _) lV (Memref.isWhole_whole _) oV (Memref.isWhole_whole _) b0 (Memref.isWhole_whole _) b1 (Memref.isWhole_whole _)
    b2 (Memref.isWhole_whole _) b3 (Memref.isWhole_whole _) bR (Memref.isWhole_whole _) bT (Memref.isWhole_whole _) bL (Memref.isWhole_whole _)
    cc0_scratch7 cc0_scratch8 cc0_scratch9 cc0_scratch10 cc0_scratch11 cc0_scratch12 cc0_scratch13 cc0_scratch14 cc0_scoped0 cc0_scoped1 cc0_scoped2 cc0_scoped3 cc0_scoped4

set_option maxHeartbeats 8000000 in
/-- A tile's run: its pieces of the logits and its labels come back, and its pieces of the result come back written. -/
theorem body (X : Buf (Elt F) (xLoc d)) (Lb : S1024.Idx → BitVec 32)
    (O : CellTallies nD τ sig (HIx 1)) (W₀ : Waits sig (HIx 1)) :
    iprop((lLoc d ↦[lpc (R0 L)]{fullShare} Lb)
        ∗ (xp d L X 0 ∗ xp d L X 1 ∗ xp d L X 2 ∗ bigSep (Finset.range 32) (xt d L X)) ∗ bigSep (Finset.range 32) (otr (F := F) d L)
        ∗ bigSep (Finset.range 4) (fun u => iprop(ex d L X u ∗ eo (F := F) d L u))
        ∗ ((∃ y, buf (F := F) (e := .f32) d L b0 y) ∗ (∃ y, buf (F := F) (e := .f32) d L b1 y) ∗ (∃ y, buf (F := F) (e := .f32) d L b2 y) ∗ (∃ y, buf (F := F) (e := .f32) d L b3 y) ∗ (∃ y, buf (F := F) (e := .f32) d L bR y) ∗ (∃ y, buf (F := F) (e := .f32) d L bT y) ∗ (∃ y, buf (F := F) (e := .i32) d L bL y))
        ∗ (semVal (thr d L, .dma cc0_scratch7.sem) 0 ∗ semVal (thr d L, .dma cc0_scratch8.sem) 0 ∗ semVal (thr d L, .dma cc0_scratch9.sem) 0 ∗ semVal (thr d L, .dma cc0_scratch10.sem) 0 ∗ semVal (thr d L, .dma cc0_scratch11.sem) 0 ∗ semVal (thr d L, .dma cc0_scratch12.sem) 0 ∗ semVal (thr d L, .dma cc0_scratch13.sem) 0 ∗ semVal (thr d L, .dma cc0_scratch14.sem) 0 ∗ semVal (thr d L, .dma cc0_scoped0.sem) 0 ∗ semVal (thr d L, .dma cc0_scoped1.sem) 0 ∗ semVal (thr d L, .dma cc0_scoped2.sem) 0 ∗ semVal (thr d L, .dma cc0_scoped3.sem) 0 ∗ semVal (thr d L, .dma cc0_scoped4.sem) 0)
        ∗ ow d L O W₀ ∗ MayWaits (thr d L) (none : HIx 1) O)
      ⊢ WP (KB L) fun _ => iprop((lLoc d ↦[lpc (R0 L)]{fullShare} Lb)
        ∗ bigSep (Finset.range 32) (xd d L X) ∗ bigSep (Finset.range 32) (od d L (outG X Lb))
        ∗ ((oLoc d ↦[pcs (gR L 124) (gC 124) 3072]{fullShare} outG X Lb) ∗ (oLoc d ↦[pcs (gR L 125) (gC 125) 3072]{fullShare} outG X Lb) ∗ (oLoc d ↦[pcs (gR L 126) (gC 126) 3072]{fullShare} outG X Lb) ∗ (oLoc d ↦[pcs (gR L 127) (gC 127) 3072]{fullShare} outG X Lb))
        ∗ bigSep (Finset.range 4) (ed d L X (outG X Lb))
        ∗ ((∃ y, buf (F := F) (e := .f32) d L b0 y) ∗ (∃ y, buf (F := F) (e := .f32) d L b1 y) ∗ (∃ y, buf (F := F) (e := .f32) d L b2 y) ∗ (∃ y, buf (F := F) (e := .f32) d L b3 y) ∗ (∃ y, buf (F := F) (e := .f32) d L bR y) ∗ (∃ y, buf (F := F) (e := .f32) d L bT y) ∗ (∃ y, buf (F := F) (e := .i32) d L bL y))
        ∗ (semVal (thr d L, .dma cc0_scratch7.sem) 0 ∗ semVal (thr d L, .dma cc0_scratch8.sem) 0 ∗ semVal (thr d L, .dma cc0_scratch9.sem) 0 ∗ semVal (thr d L, .dma cc0_scratch10.sem) 0 ∗ semVal (thr d L, .dma cc0_scratch11.sem) 0 ∗ semVal (thr d L, .dma cc0_scratch12.sem) 0 ∗ semVal (thr d L, .dma cc0_scratch13.sem) 0 ∗ semVal (thr d L, .dma cc0_scratch14.sem) 0 ∗ semVal (thr d L, .dma cc0_scoped0.sem) 0 ∗ semVal (thr d L, .dma cc0_scoped1.sem) 0 ∗ semVal (thr d L, .dma cc0_scoped2.sem) 0 ∗ semVal (thr d L, .dma cc0_scoped3.sem) 0 ∗ semVal (thr d L, .dma cc0_scoped4.sem) 0)
        ∗ ow d L O W₀) := by
  unfold KB cc0_k
  simp only [bind_assoc, pure_bind]
  iintro ⟨Hlp, Hxs, Hos, He, ⟨Hb0, Hb1, Hb2, Hb3, HbR, HbT, HbL⟩, ⟨Hi0, Hi1, Hi2, Hi3, Hs0, Hs1, Hs2, Hs3, Hc0, Hc1, Hc2, Hc3, Hc4⟩, HO, #Hmw⟩
  iapply (part15 d L X Lb O W₀) $$ [Hlp HbL Hc0 Hxs Hos Hb0 Hb1 Hb2 Hb3 Hi0 Hi1 Hi2 Hi3 Hs0 Hs1 Hs2 Hs3 HO]
  · isplitl [Hlp HbL Hc0]
    · isplitl [Hlp]; · iexact Hlp
      isplitl [HbL]; · iexact HbL
      iexact Hc0
    isplitl [Hxs]; · iexact Hxs
    isplitl [Hos]; · iexact Hos
    isplitl [Hb0 Hb1 Hb2 Hb3]
    · isplitl [Hb0]; · iexact Hb0
      isplitl [Hb1]; · iexact Hb1
      isplitl [Hb2]; · iexact Hb2
      iexact Hb3
    isplitl [Hi0 Hi1 Hi2 Hi3 Hs0 Hs1 Hs2 Hs3]
    · isplitl [Hi0]; · iexact Hi0
      isplitl [Hi1]; · iexact Hi1
      isplitl [Hi2]; · iexact Hi2
      isplitl [Hi3]; · iexact Hi3
      isplitl [Hs0]; · iexact Hs0
      isplitl [Hs1]; · iexact Hs1
      isplitl [Hs2]; · iexact Hs2
      iexact Hs3
    isplitl [HO]; · iexact HO
    iexact Hmw
  iintro ⟨⟨Hlp, Hl, Hc0⟩, Hxs, Hos, ⟨Hq0, Hb0, Hs0, Hi0⟩, ⟨H1, Hi1⟩, ⟨H2, Hi2⟩, ⟨H3, Hi3⟩, HO⟩
  dsimp only
  iapply (wp_outW d L b1 cc0_scratch12.sem (outG X Lb) (gR L 125) (gC 125)) $$ [H1 HO]
  · isplitl [H1]; · iexact H1
    isplitl [HO]; · iexact HO
    iexact Hmw
  iintro ⟨⟨Hq1, Hb1⟩, Hs1, HO⟩
  iapply (wp_outW d L b2 cc0_scratch13.sem (outG X Lb) (gR L 126) (gC 126)) $$ [H2 HO]
  · isplitl [H2]; · iexact H2
    isplitl [HO]; · iexact HO
    iexact Hmw
  iintro ⟨⟨Hq2, Hb2⟩, Hs2, HO⟩
  iapply (wp_outW d L b3 cc0_scratch14.sem (outG X Lb) (gR L 127) (gC 127)) $$ [H3 HO]
  · isplitl [H3]; · iexact H3
    isplitl [HO]; · iexact HO
    iexact Hmw
  iintro ⟨⟨Hq3, Hb3⟩, Hs3, HO⟩
  iapply (Scf.wp_for_bind frame (wpE (defs₀ (F := F)) 𝒱₀ (thr d L) none) Set.univ k0_t34_loop.lb k0_t34_loop.ub k0_t34_loop.st k0_t34_ok (⟨⟩ : PUnit.{1}) _
    (fun n _ => Edges d L X (outG X Lb) Lb O W₀ n) ?hb) $$ [HbR HbT Hc1 Hc2 Hc3 Hc4 He Hl HO]
  case hb =>
    intro t acc
    have ht : t.val < 4 := t.isLt
    have hR8 : R0 L + 8 * t.val + 8 ≤ 1024 := by have := R0_le L; omega
    have hw : Scalar.muli (Scf.iv 0#32 1#32 t.val) 8#32 = BitVec.ofNat 32 (8 * t.val) := bandW t
    have hsf : ∀ a x, ((![lane8, safeV (labVec Lb (R0 L + 8 * t.val)) 99968#32 32#32] : Fin 2 → IVec S16 32) a x).toNat < (S8 32).size a :=
      idx_ok (C := 99968) _ rfl rfl (by decide) (by decide)
    iintro H
    unfold Edges
    icases H with ⟨HbR, HbT, Hc1, Hc2, Hc3, Hc4, He, Hl, HO, #Hmw⟩
    ihave He := (bigSep_next 4 t.val ht (ed d L X (outG X Lb)) (fun u => iprop(ex d L X u ∗ eo (F := F) d L u))) $$ He
    icases He with ⟨⟨He1, He2⟩, Hec⟩
    ihave He1 := (Entails.of_eq (show ex d L X t.val = iprop((xLoc d ↦[pcs (R0 L + 8 * t.val) 98304 1664]{fullShare} X) ∗ (xLoc d ↦[pcs (R0 L + 8 * t.val) 99968 32]{fullShare} X)) from rfl)) $$ He1
    icases He1 with ⟨Hx1, Hx2⟩
    ihave He2 := (Entails.of_eq (show eo (F := F) d L t.val = iprop((∃ f : Buf (Elt F) (oLoc d), oLoc d ↦[pcs (R0 L + 8 * t.val) 98304 1664]{fullShare} f) ∗ (∃ f : Buf (Elt F) (oLoc d), oLoc d ↦[pcs (R0 L + 8 * t.val) 99968 32]{fullShare} f)) from rfl)) $$ He2
    icases He2 with ⟨Ho1, Ho2⟩
    iapply (part9 d L X Lb t O W₀) $$ [Hx1 HbR Hc1 Hl HO]
    · isplitl [Hx1]; · iexact Hx1
      isplitl [HbR]; · iexact HbR
      isplitl [Hc1]; · iexact Hc1
      isplitl [Hl]; · iexact Hl
      isplitl [HO]; · iexact HO
      iexact Hmw
    iintro ⟨HbR, Hx1, Hc1, Hl, HO⟩
    dsimp only
    iapply (part10 d L X Lb t O W₀) $$ [HbR Ho1 Hc2 Hx2 HbT Hc3 HO]
    · isplitl [HbR]; · iexact HbR
      isplitl [Ho1]; · iexact Ho1
      isplitl [Hc2]; · iexact Hc2
      isplitl [Hx2]; · iexact Hx2
      isplitl [HbT]; · iexact HbT
      isplitl [Hc3]; · iexact Hc3
      isplitl [HO]; · iexact HO
      iexact Hmw
    iintro ⟨Ho1, HbR, Hc2, Hb, Hx2, Hc3, HO⟩
    dsimp only
    unfold k0_part11 k0_part12 k0_part13 k0_part14
    simp only [bind_assoc, pure_bind]
    iapply (wp_chk d L (bandIdx_lt hw ht))
    iapply (wp_labels d L Lb (R0 L) hw ht) $$ Hl
    iintro Hl
    iapply (wp_chk d L ⟨hsf, hsf⟩)
    iapply (wp_gather d L bT) $$ Hb
    iintro Hb
    iapply (wp_fix d L bT X Lb (C := 99968) rfl rfl hR8 (by decide)) $$ Hb
    iintro Hb
    ihave Hb := (Entails.of_eq (congrArg (buf (F := F) (e := .f32) d L bT) (show _ = scaled 2 (0 * 2) (win 32 (fixed X Lb) (R0 L + 8 * t.val) 99968) from (scaled_zero 2 _).symm))) $$ Hb
    iapply (wp_chunk (W := 32) (T := 2) d L bT (row := 0) (k := 0) (n := 0) rfl (by decide) rfl rfl _) $$ Hb
    iintro Hb
    iapply (wp_chunk (W := 32) (T := 2) d L bT (row := 0) (k := 1) (n := 1) rfl (by decide) rfl rfl _) $$ Hb
    iintro Hb
    iapply (wp_chunk (W := 32) (T := 2) d L bT (row := 1) (k := 0) (n := 2) rfl (by decide) rfl rfl _) $$ Hb
    iintro Hb
    iapply (wp_chunk (W := 32) (T := 2) d L bT (row := 1) (k := 1) (n := 3) rfl (by decide) rfl rfl _) $$ Hb
    iintro Hb
    iapply (wp_chunk (W := 32) (T := 2) d L bT (row := 2) (k := 0) (n := 4) rfl (by decide) rfl rfl _) $$ Hb
    iintro Hb
    iapply (wp_chunk (W := 32) (T := 2) d L bT (row := 2) (k := 1) (n := 5) rfl (by decide) rfl rfl _) $$ Hb
    iintro Hb
    iapply (wp_chunk (W := 32) (T := 2) d L bT (row := 3) (k := 0) (n := 6) rfl (by decide) rfl rfl _) $$ Hb
    iintro Hb
    iapply (wp_chunk (W := 32) (T := 2) d L bT (row := 3) (k := 1) (n := 7) rfl (by decide) rfl rfl _) $$ Hb
    iintro Hb
    iapply (wp_chunk (W := 32) (T := 2) d L bT (row := 4) (k := 0) (n := 8) rfl (by decide) rfl rfl _) $$ Hb
    iintro Hb
    iapply (wp_chunk (W := 32) (T := 2) d L bT (row := 4) (k := 1) (n := 9) rfl (by decide) rfl rfl _) $$ Hb
    iintro Hb
    iapply (wp_chunk (W := 32) (T := 2) d L bT (row := 5) (k := 0) (n := 10) rfl (by decide) rfl rfl _) $$ Hb
    iintro Hb
    iapply (wp_chunk (W := 32) (T := 2) d L bT (row := 5) (k := 1) (n := 11) rfl (by decide) rfl rfl _) $$ Hb
    iintro Hb
    iapply (wp_chunk (W := 32) (T := 2) d L bT (row := 6) (k := 0) (n := 12) rfl (by decide) rfl rfl _) $$ Hb
    iintro Hb
    iapply (wp_chunk (W := 32) (T := 2) d L bT (row := 6) (k := 1) (n := 13) rfl (by decide) rfl rfl _) $$ Hb
    iintro Hb
    iapply (wp_chunk (W := 32) (T := 2) d L bT (row := 7) (k := 0) (n := 14) rfl (by decide) rfl rfl _) $$ Hb
    iintro Hb
    iapply (wp_chunk (W := 32) (T := 2) d L bT (row := 7) (k := 1) (n := 15) rfl (by decide) rfl rfl _) $$ Hb
    iintro Hb
    iapply (wp_out d L (by decide) bT cc0_scoped4.sem (outG X Lb) (off65_eq L t)) $$ [Hb Ho2 Hc4]
    · isplitl [Hb]
      · iapply (Entails.of_eq (congrArg (buf d L bT) (scaled_all (T := 2) rfl X Lb _ _))) $$ Hb
      isplitl [Ho2]; · iexact Ho2
      iexact Hc4
    iintro Hf
    iapply (wp_outW d L bT cc0_scoped4.sem (outG X Lb) _ _) $$ [Hf HO]
    · isplitl [Hf]; · iexact Hf
      isplitl [HO]; · iexact HO
      iexact Hmw
    iintro ⟨⟨Ho2, HbT⟩, Hc4, HO⟩
    rw [Prog.pure_eq_ret, wp_ret]
    imodintro
    isplitl [HbR]; · iexact HbR
    isplitl [HbT]; · iexists _; iexact HbT
    isplitl [Hc1]; · iexact Hc1
    isplitl [Hc2]; · iexact Hc2
    isplitl [Hc3]; · iexact Hc3
    isplitl [Hc4]; · iexact Hc4
    isplitl [Hec Hx1 Hx2 Ho1 Ho2]
    · iapply Hec
      unfold ed
      isplitl [Hx1 Hx2]
      · isplitl [Hx1]; · iexact Hx1
        iexact Hx2
      isplitl [Ho1]; · iexact Ho1
      iexact Ho2
    isplitl [Hl]; · iexact Hl
    isplitl [HO]; · iexact HO
    iexact Hmw
  · unfold Edges
    isplitl [HbR]; · iexact HbR
    isplitl [HbT]; · iexact HbT
    isplitl [Hc1]; · iexact Hc1
    isplitl [Hc2]; · iexact Hc2
    isplitl [Hc3]; · iexact Hc3
    isplitl [Hc4]; · iexact Hc4
    isplitl [He]
    · iapply (Entails.of_eq (bigSep_congr fun u _ => (if_neg (Nat.not_lt_zero u)).symm)) $$ He
    isplitl [Hl]; · iexact Hl
    isplitl [HO]; · iexact HO
    iexact Hmw
  iintro %acc H
  rw [show Scf.trips k0_t34_loop.lb k0_t34_loop.ub k0_t34_loop.st = 4 from trips34]
  unfold Edges
  icases H with ⟨HbR, HbT, Hc1, Hc2, Hc3, Hc4, He, Hl, HO, Hmw'⟩
  rw [Prog.pure_eq_ret, wp_ret]
  imodintro
  isplitl [Hlp]; · iexact Hlp
  isplitl [Hxs]; · iexact Hxs
  isplitl [Hos]; · iexact Hos
  isplitl [Hq0 Hq1 Hq2 Hq3]
  · isplitl [Hq0]; · iexact Hq0
    isplitl [Hq1]; · iexact Hq1
    isplitl [Hq2]; · iexact Hq2
    iexact Hq3
  isplitl [He]
  · iapply (Entails.of_eq (bigSep_congr fun u hu => if_pos (Finset.mem_range.1 hu))) $$ He
  isplitl [Hb0 Hb1 Hb2 Hb3 HbR HbT Hl]
  · isplitl [Hb0]; · iexact Hb0
    isplitl [Hb1]; · iexists _; iexact Hb1
    isplitl [Hb2]; · iexists _; iexact Hb2
    isplitl [Hb3]; · iexists _; iexact Hb3
    isplitl [HbR]; · iexact HbR
    isplitl [HbT]; · iexact HbT
    iexists _; iexact Hl
  isplitl [Hi0 Hi1 Hi2 Hi3 Hs0 Hs1 Hs2 Hs3 Hc0 Hc1 Hc2 Hc3 Hc4]
  · isplitl [Hi0]; · iexact Hi0
    isplitl [Hi1]; · iexact Hi1
    isplitl [Hi2]; · iexact Hi2
    isplitl [Hi3]; · iexact Hi3
    isplitl [Hs0]; · iexact Hs0
    isplitl [Hs1]; · iexact Hs1
    isplitl [Hs2]; · iexact Hs2
    isplitl [Hs3]; · iexact Hs3
    isplitl [Hc0]; · iexact Hc0
    isplitl [Hc1]; · iexact Hc1
    isplitl [Hc2]; · iexact Hc2
    isplitl [Hc3]; · iexact Hc3
    iexact Hc4
  iexact HO

end Part

end Cert.Proof.Arc

end
-- ==== Proof.Pieces.lean ====
module

public import proofs.«01_k».proof.Proof.Body

public import Idealize.SL.BI.BigOpNat

@[expose] public section

noncomputable section

namespace Cert.Proof.Arc

open Cert.KernelIdeal Cert.KernelIdeal.Gen
open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Tactic

variable {F : FTy → Type}

local notation "𝕄" => MT nD τ sig (HIx 1) (Elt F) ℕ UU ℕ

section Part

variable [FloatOps F] [Named F] (d : Dev nD) (L : grid0.Coords)

local notation "WP" => wp frame (wpE (defs₀ (F := F)) 𝒱₀ (thr d L) none) Set.univ

/-! ## Families over a range -/

omit [FloatOps F] [Named F] in
theorem two {A B C D : sProp 𝕄} (h1 : A ⊢ C) (h2 : B ⊢ D) : iprop(A ∗ B) ⊢ iprop(C ∗ D) := by
  iintro ⟨HA, HB⟩
  isplitl [HA]
  · iapply h1 $$ HA
  iapply h2 $$ HB

omit [FloatOps F] [Named F] in
/-- The members of a range, taken four at a time. -/
theorem by_four (n : ℕ) (f : ℕ → sProp 𝕄) :
    bigSep (Finset.range (4 * n)) f ⊢ bigSep (Finset.range n) (fun u => iprop(f (4 * u + 0) ∗ f (4 * u + 1) ∗ f (4 * u + 2) ∗ f (4 * u + 3))) := by
  induction n with
  | zero => exact (Entails.of_eq (by rw [Nat.mul_zero, Finset.range_zero, bigSep_empty, bigSep_empty]))
  | succ n ih =>
    rw [show 4 * (n + 1) = 4 * n + 3 + 1 from by omega, bigSep_range_succ (4 * n + 3), bigSep_range_succ (4 * n + 2), bigSep_range_succ (4 * n + 1), bigSep_range_succ (4 * n), bigSep_range_succ n]
    iintro ⟨H3, H2, H1, H0, H⟩
    isplitl [H0 H1 H2 H3]
    · isplitl [H0]; · iexact H0
      isplitl [H1]; · iexact H1
      isplitl [H2]; · iexact H2
      iexact H3
    iapply ih $$ H

omit [FloatOps F] [Named F] in
/-- And given back. -/
theorem of_four (n : ℕ) (f : ℕ → sProp 𝕄) :
    bigSep (Finset.range n) (fun u => iprop(f (4 * u + 0) ∗ f (4 * u + 1) ∗ f (4 * u + 2) ∗ f (4 * u + 3))) ⊢ bigSep (Finset.range (4 * n)) f := by
  induction n with
  | zero => exact (Entails.of_eq (by rw [Nat.mul_zero, Finset.range_zero, bigSep_empty, bigSep_empty]))
  | succ n ih =>
    rw [show 4 * (n + 1) = 4 * n + 3 + 1 from by omega, bigSep_range_succ (4 * n + 3), bigSep_range_succ (4 * n + 2), bigSep_range_succ (4 * n + 1), bigSep_range_succ (4 * n), bigSep_range_succ n]
    iintro ⟨⟨H0, H1, H2, H3⟩, H⟩
    isplitl [H3]; · iexact H3
    isplitl [H2]; · iexact H2
    isplitl [H1]; · iexact H1
    isplitl [H0]; · iexact H0
    iapply ih $$ H

omit [FloatOps F] [Named F] in
/-- The members of a range, the first three apart, the rest four at a time. -/
theorem by_four_from3 (n : ℕ) (f : ℕ → sProp 𝕄) :
    bigSep (Finset.range (4 * n + 3)) f ⊢ iprop(f 0 ∗ f 1 ∗ f 2 ∗ bigSep (Finset.range n) (fun u => iprop(f (4 * u + 3) ∗ f (4 * u + 4) ∗ f (4 * u + 5) ∗ f (4 * u + 6)))) := by
  induction n with
  | zero =>
    rw [Nat.mul_zero, bigSep_range_succ (0 + 2), bigSep_range_succ (0 + 1), bigSep_range_succ 0, Finset.range_zero, bigSep_empty]
    iintro ⟨H2, H1, H0, H⟩
    isplitl [H0]; · iexact H0
    isplitl [H1]; · iexact H1
    isplitl [H2]; · iexact H2
    rw [bigSep_empty]; iexact H
  | succ n ih =>
    rw [show 4 * (n + 1) + 3 = 4 * n + 6 + 1 from by omega, bigSep_range_succ (4 * n + 6), bigSep_range_succ (4 * n + 5), bigSep_range_succ (4 * n + 4), bigSep_range_succ (4 * n + 3), bigSep_range_succ n]
    iintro ⟨H6, H5, H4, H3, H⟩
    ihave H := ih $$ H
    icases H with ⟨H0, H1, H2, H⟩
    isplitl [H0]; · iexact H0
    isplitl [H1]; · iexact H1
    isplitl [H2]; · iexact H2
    isplitl [H3 H4 H5 H6]
    · isplitl [H3]; · iexact H3
      isplitl [H4]; · iexact H4
      isplitl [H5]; · iexact H5
      iexact H6
    iexact H

omit [FloatOps F] [Named F] in
/-- A family shifted by one, its first member empty. -/
theorem shifted (n : ℕ) (f g : ℕ → sProp 𝕄) (h0 : g 0 = iprop(emp)) (h : ∀ k, k < n → g (k + 1) = f k) :
    bigSep (Finset.range (n + 1)) g ⊢ bigSep (Finset.range n) f := by
  induction n with
  | zero =>
    rw [bigSep_range_succ 0, Finset.range_zero, bigSep_empty, bigSep_empty, h0]
    iintro ⟨H, -⟩
    iexact H
  | succ n ih =>
    rw [bigSep_range_succ (n + 1) g, bigSep_range_succ n f, h n (Nat.lt_succ_self n)]
    iintro ⟨H1, H⟩
    isplitl [H1]; · iexact H1
    iapply (ih fun k hk => h k (by omega)) $$ H

/-! ## The pieces of a tile's rows -/

/-- Rows `R` to `R + n`. -/
def rws (R n : ℕ) : Finset S1024x100000.Idx := Finset.univ.filter fun i => R ≤ (i 0).val ∧ (i 0).val < R + n

/-- Piece `j` of a tile's rows: a slab, a band's remainder, or a band's last 32 columns. -/
def ps (j : ℕ) : Finset S1024x100000.Idx :=
  if j < 128 then pcs (gR L j) (gC j) 3072
  else if j < 132 then pcs (R0 L + 8 * (j - 128)) 98304 1664
  else pcs (R0 L + 8 * (j - 132)) 99968 32

omit [FloatOps F] [Named F] in
theorem ps_disjoint : ∀ i ∈ Finset.range 136, ∀ j ∈ Finset.range 136, i ≠ j → Disjoint (ps L i) (ps L j) := by
  intro i hi j hj hij
  rw [Finset.mem_range] at hi hj
  rw [Finset.disjoint_left]
  intro p hp hq
  unfold ps at hp hq
  split at hp <;> split at hq <;> (try split at hp) <;> (try split at hq) <;> rw [mem_pcs] at hp hq <;> (try unfold gR gC at hp) <;> (try unfold gR gC at hq) <;> omega

omit [FloatOps F] [Named F] in
theorem ps_cover : (Finset.range 136).biUnion (ps L) = rws (R0 L) 32 := by
  ext p
  have hp1 : (p 1).val < 100000 := (p 1).isLt
  rw [Finset.mem_biUnion]
  unfold rws
  rw [Finset.mem_filter]
  constructor
  · rintro ⟨j, hj, hp⟩
    rw [Finset.mem_range] at hj
    refine ⟨Finset.mem_univ _, ?_⟩
    unfold ps at hp
    split at hp <;> (try split at hp) <;> rw [mem_pcs] at hp <;> (try unfold gR gC at hp) <;> omega
  · rintro ⟨-, h1, h2⟩
    by_cases hc : (p 1).val < 98304
    · refine ⟨32 * (((p 0).val - R0 L) / 8) + (p 1).val / 3072, Finset.mem_range.2 (by omega), ?_⟩
      unfold ps
      rw [if_pos (by omega), mem_pcs]
      unfold gR gC
      omega
    · by_cases hd : (p 1).val < 99968
      · refine ⟨128 + ((p 0).val - R0 L) / 8, Finset.mem_range.2 (by omega), ?_⟩
        unfold ps
        rw [if_neg (by omega), if_pos (by omega), mem_pcs]
        omega
      · refine ⟨132 + ((p 0).val - R0 L) / 8, Finset.mem_range.2 (by omega), ?_⟩
        unfold ps
        rw [if_neg (by omega), if_neg (by omega), mem_pcs]
        omega

omit [FloatOps F] [Named F] in
theorem x_rows (f : Buf (Elt F) (xLoc d)) :
    (xLoc d ↦[rws (R0 L) 32]{fullShare} f : sProp 𝕄) = bigSep (Finset.range (4 * 34)) fun j => iprop(xLoc d ↦[ps L j]{fullShare} f) := by
  rw [← ps_cover]
  exact pointsTo_biUnion (Finset.range 136) (ℓ := xLoc d) (ps L) (ps_disjoint L)
omit [FloatOps F] [Named F] in
theorem o_rows (f : Buf (Elt F) (oLoc d)) :
    (oLoc d ↦[rws (R0 L) 32]{fullShare} f : sProp 𝕄) = bigSep (Finset.range (4 * 34)) fun j => iprop(oLoc d ↦[ps L j]{fullShare} f) := by
  rw [← ps_cover]
  exact pointsTo_biUnion (Finset.range 136) (ℓ := oLoc d) (ps L) (ps_disjoint L)

omit [FloatOps F] [Named F] in
theorem ps_slab {k : ℕ} (h : k < 128) : ps L k = pcs (gR L k) (gC k) 3072 := if_pos h
omit [FloatOps F] [Named F] in
theorem ps_rem (u : ℕ) (h : u < 4) : ps L (128 + u) = pcs (R0 L + 8 * u) 98304 1664 := by
  unfold ps; rw [if_neg (by omega), if_pos (by omega), Nat.add_sub_cancel_left]
omit [FloatOps F] [Named F] in
theorem ps_last (u : ℕ) (h : u < 4) : ps L (132 + u) = pcs (R0 L + 8 * u) 99968 32 := by
  unfold ps; rw [if_neg (by omega), if_neg (by omega), Nat.add_sub_cancel_left]

omit [FloatOps F] [Named F] in
theorem last8 (a : ℕ) (f : ℕ → sProp 𝕄) : bigSep (Finset.range (a + 7 + 1)) f
    = iprop(f (a + 7) ∗ f (a + 6) ∗ f (a + 5) ∗ f (a + 4) ∗ f (a + 3) ∗ f (a + 2) ∗ f (a + 1) ∗ f a ∗ bigSep (Finset.range a) f) := by
  rw [bigSep_range_succ (a + 7), bigSep_range_succ (a + 6), bigSep_range_succ (a + 5), bigSep_range_succ (a + 4), bigSep_range_succ (a + 3), bigSep_range_succ (a + 2), bigSep_range_succ (a + 1), bigSep_range_succ a]

omit [FloatOps F] [Named F] in
/-- A family of 136 as 128 and two of four, those two joined. -/
theorem cut136 (f : ℕ → sProp 𝕄) : bigSep (Finset.range (4 * 34)) f
    ⊢ iprop(bigSep (Finset.range 128) f ∗ bigSep (Finset.range 4) fun u => iprop(f (128 + u) ∗ f (132 + u))) := by
  rw [show 4 * 34 = 128 + 7 + 1 from rfl, last8 128 f, show Finset.range 4 = Finset.range (0 + 3 + 1) from rfl, bigSep_range_succ (0 + 3), bigSep_range_succ (0 + 2), bigSep_range_succ (0 + 1),
    bigSep_range_succ 0, Finset.range_zero, bigSep_empty]
  iintro ⟨H7, H6, H5, H4, H3, H2, H1, H0, H⟩
  isplitl [H]; · iexact H
  isplitl [H3 H7]
  · isplitl [H3]; · iexact H3
    iexact H7
  isplitl [H2 H6]
  · isplitl [H2]; · iexact H2
    iexact H6
  isplitl [H1 H5]
  · isplitl [H1]; · iexact H1
    iexact H5
  isplitl [H0 H4]
  · isplitl [H0]; · iexact H0
    iexact H4
  iempintro

omit [FloatOps F] [Named F] in
theorem join136 (f : ℕ → sProp 𝕄) : iprop(bigSep (Finset.range 128) f ∗ bigSep (Finset.range 4) fun u => iprop(f (128 + u) ∗ f (132 + u)))
    ⊢ bigSep (Finset.range (4 * 34)) f := by
  rw [show 4 * 34 = 128 + 7 + 1 from rfl, last8 128 f, show Finset.range 4 = Finset.range (0 + 3 + 1) from rfl, bigSep_range_succ (0 + 3), bigSep_range_succ (0 + 2), bigSep_range_succ (0 + 1),
    bigSep_range_succ 0, Finset.range_zero, bigSep_empty]
  iintro ⟨H, ⟨H3, H7⟩, ⟨H2, H6⟩, ⟨H1, H5⟩, ⟨H0, H4⟩, -⟩
  isplitl [H7]; · iexact H7
  isplitl [H6]; · iexact H6
  isplitl [H5]; · iexact H5
  isplitl [H4]; · iexact H4
  isplitl [H3]; · iexact H3
  isplitl [H2]; · iexact H2
  isplitl [H1]; · iexact H1
  isplitl [H0]; · iexact H0
  iexact H

/-! ## A tile's rows, as its run takes them and gives them back -/

/-- The tile's rows of the logits, cut into the pieces its copies in take. -/
theorem x_cut (X : Buf (Elt F) (xLoc d)) : (xLoc d ↦[rws (R0 L) 32]{fullShare} X : sProp 𝕄)
    ⊢ iprop((xp d L X 0 ∗ xp d L X 1 ∗ xp d L X 2 ∗ bigSep (Finset.range 32) (xt d L X)) ∗ bigSep (Finset.range 4) (ex d L X)) := by
  rw [x_rows]
  refine (cut136 _).trans (two ?_ (Entails.of_eq (bigSep_congr fun u hu => ?_)))
  · refine BI.Entails.trans ?_ (by_four_from3 32 (xp d L X))
    rw [show 4 * 32 + 3 = 128 + 2 + 1 from rfl]
    rw [bigSep_range_succ (128 + 2) (xp d L X), bigSep_range_succ (128 + 1) (xp d L X), bigSep_range_succ 128 (xp d L X)]
    rw [show xp d L X (128 + 2) = iprop(emp) from if_neg (by omega), show xp d L X (128 + 1) = iprop(emp) from if_neg (by omega), show xp d L X 128 = iprop(emp) from if_neg (by omega)]
    show (bigSep (Finset.range 128) fun j => (xLoc d ↦[ps L j]{fullShare} X : sProp 𝕄)) ⊢ iprop(emp ∗ emp ∗ emp ∗ bigSep (Finset.range 128) (xp d L X))
    iintro H
    isplitr; · iempintro
    isplitr; · iempintro
    isplitr; · iempintro
    iapply (Entails.of_eq (bigSep_congr fun k hk => ?_)) $$ H
    have hk := Finset.mem_range.1 hk
    rw [ps_slab L hk]
    exact (if_pos hk).symm
  · have hu := Finset.mem_range.1 hu
    rw [ps_rem L u hu, ps_last L u hu]; rfl

/-- The tile's rows of the result, cut into the pieces its copies out take. -/
theorem o_cut (f : Buf (Elt F) (oLoc d)) : (oLoc d ↦[rws (R0 L) 32]{fullShare} f : sProp 𝕄)
    ⊢ iprop(bigSep (Finset.range 32) (otr (F := F) d L) ∗ bigSep (Finset.range 4) (eo (F := F) d L)) := by
  have h1 : ∀ k, k < 128 → iprop(oLoc d ↦[ps L k]{fullShare} f) ⊢ ot (F := F) d L k := by
    intro k hk
    rw [ps_slab L hk]
    unfold ot
    iintro H
    iexists f; iexact H
  have h2 : ∀ u, u < 4 → iprop((oLoc d ↦[ps L (128 + u)]{fullShare} f) ∗ (oLoc d ↦[ps L (132 + u)]{fullShare} f)) ⊢ eo (F := F) d L u := by
    intro u hu
    rw [ps_rem L u hu, ps_last L u hu]
    unfold eo
    iintro ⟨H1, H2⟩
    isplitl [H1]
    · iexists f; iexact H1
    iexists f; iexact H2
  rw [o_rows]
  refine (cut136 _).trans (two ?_ (bigSep_mono fun u hu => h2 u (Finset.mem_range.1 hu)))
  exact BI.Entails.trans (bigSep_mono (Ψ := ot (F := F) d L) fun k hk => h1 k (Finset.mem_range.1 hk)) (by_four 32 (ot (F := F) d L))

/-- The logits' pieces joined again. -/
theorem x_join (X : Buf (Elt F) (xLoc d)) : iprop(bigSep (Finset.range 32) (xd d L X) ∗ bigSep (Finset.range 4) (ex d L X))
    ⊢ (xLoc d ↦[rws (R0 L) 32]{fullShare} X : sProp 𝕄) := by
  rw [x_rows]
  refine BI.Entails.trans (two ?_ (Entails.of_eq (bigSep_congr fun u hu => ?_))) (join136 _)
  · refine (of_four 32 (fun k => iprop(xLoc d ↦[pcs (gR L k) (gC k) 3072]{fullShare} X))).trans (Entails.of_eq (bigSep_congr fun k hk => ?_))
    rw [ps_slab L (Finset.mem_range.1 hk)]
  · have hu := Finset.mem_range.1 hu
    rw [ps_rem L u hu, ps_last L u hu]; rfl

/-- The result's pieces joined, all written. -/
theorem o_join (G : Buf (Elt F) (oLoc d)) :
    iprop(bigSep (Finset.range 32) (od d L G)
        ∗ ((oLoc d ↦[pcs (gR L 124) (gC 124) 3072]{fullShare} G) ∗ (oLoc d ↦[pcs (gR L 125) (gC 125) 3072]{fullShare} G)
          ∗ (oLoc d ↦[pcs (gR L 126) (gC 126) 3072]{fullShare} G) ∗ (oLoc d ↦[pcs (gR L 127) (gC 127) 3072]{fullShare} G))
        ∗ bigSep (Finset.range 4) fun u => iprop((oLoc d ↦[pcs (R0 L + 8 * u) 98304 1664]{fullShare} G) ∗ (oLoc d ↦[pcs (R0 L + 8 * u) 99968 32]{fullShare} G)))
    ⊢ (oLoc d ↦[rws (R0 L) 32]{fullShare} G : sProp 𝕄) := by
  rw [o_rows]
  iintro ⟨H, ⟨H4, H5, H6, H7⟩, He⟩
  iapply (join136 _)
  isplitr [He]
  · ihave H := (show bigSep (Finset.range 32) (od d L G) ⊢ bigSep (Finset.range (4 * 32)) (oq d L G) from of_four 32 (oq d L G)) $$ H
    ihave H := (show bigSep (Finset.range (4 * 32)) (oq d L G) ⊢ bigSep (Finset.range (124 + 1)) (oq d L G) from ?h1) $$ H
    case h1 =>
      rw [show 4 * 32 = 124 + 1 + 2 + 1 from rfl]
      rw [bigSep_range_succ (124 + 1 + 2), bigSep_range_succ (124 + 1 + 1), bigSep_range_succ (124 + 1)]
      iintro ⟨-, -, -, H⟩
      iexact H
    ihave H := (shifted 124 (fun k => iprop(oLoc d ↦[ps L k]{fullShare} G)) (oq d L G) (if_neg (by omega)) ?h2) $$ H
    case h2 =>
      intro k hk
      rw [ps_slab L (by omega)]
      exact if_pos ⟨by omega, by omega⟩
    rw [show (128 : ℕ) = 124 + 3 + 1 from rfl]
    rw [bigSep_range_succ (124 + 3), bigSep_range_succ (124 + 2), bigSep_range_succ (124 + 1), bigSep_range_succ 124]
    rw [ps_slab L (show 124 + 3 < 128 by omega), ps_slab L (show 124 + 2 < 128 by omega), ps_slab L (show 124 + 1 < 128 by omega), ps_slab L (show 124 < 128 by omega)]
    isplitl [H7]; · iexact H7
    isplitl [H6]; · iexact H6
    isplitl [H5]; · iexact H5
    isplitl [H4]; · iexact H4
    iexact H
  · iapply (Entails.of_eq (bigSep_congr fun u hu => ?_)) $$ He
    have hu := Finset.mem_range.1 hu
    rw [ps_rem L u hu, ps_last L u hu]

end Part

end Cert.Proof.Arc

end
-- ==== Proof.Tile.lean ====
module

public import proofs.«01_k».proof.Proof.Pieces

@[expose] public section

noncomputable section

namespace Cert.Proof.Arc

open Cert.KernelIdeal Cert.KernelIdeal.Gen
open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Tactic

variable {F : FTy → Type}

local notation "𝕄" => MT nD τ sig (HIx 1) (Elt F) ℕ UU ℕ

section Part

variable [FloatOps F] [Named F] (d : Dev nD) (L : grid0.Coords)

local notation "WP" => wp frame (wpE (defs₀ (F := F)) 𝒱₀ (thr d L) none) Set.univ

/-! ## A tile's own semaphores and buffers -/

/-- The semaphores the tile's run uses. -/
def cellsU : Finset (SemLoc sig) := {.dma cc0_scratch7.sem, .dma cc0_scratch8.sem, .dma cc0_scratch9.sem, .dma cc0_scratch10.sem, .dma cc0_scratch11.sem, .dma cc0_scratch12.sem, .dma cc0_scratch13.sem, .dma cc0_scratch14.sem, .dma cc0_scoped0.sem, .dma cc0_scoped1.sem, .dma cc0_scoped2.sem, .dma cc0_scoped3.sem, .dma cc0_scoped4.sem}

/-- A semaphore as the tile's own. -/
def cellOf : SemLoc sig ↪ GSem nD τ sig := ⟨fun s => (thr d L, s), fun _ _ e => (Prod.mk.inj e).2⟩

omit [FloatOps F] [Named F] in
theorem cells_split : (SparseCore.Cfg.ownSems0 (thr d L) : sProp 𝕄)
    = iprop((semVal (thr d L, .dma cc0_scratch7.sem) 0 ∗ semVal (thr d L, .dma cc0_scratch8.sem) 0 ∗ semVal (thr d L, .dma cc0_scratch9.sem) 0 ∗ semVal (thr d L, .dma cc0_scratch10.sem) 0 ∗ semVal (thr d L, .dma cc0_scratch11.sem) 0 ∗ semVal (thr d L, .dma cc0_scratch12.sem) 0 ∗ semVal (thr d L, .dma cc0_scratch13.sem) 0 ∗ semVal (thr d L, .dma cc0_scratch14.sem) 0 ∗ semVal (thr d L, .dma cc0_scoped0.sem) 0 ∗ semVal (thr d L, .dma cc0_scoped1.sem) 0 ∗ semVal (thr d L, .dma cc0_scoped2.sem) 0 ∗ semVal (thr d L, .dma cc0_scoped3.sem) 0 ∗ semVal (thr d L, .dma cc0_scoped4.sem) 0)
        ∗ bigSep (SparseCore.Cfg.ownCells (thr d L) \ cellsU.map (cellOf d L)) fun g => semVal g 0) := by
  unfold SparseCore.Cfg.ownSems0
  have hsub : cellsU.map (cellOf d L) ⊆ SparseCore.Cfg.ownCells (thr d L) := by
    intro g hg
    obtain ⟨s, hs, rfl⟩ := Finset.mem_map.1 hg
    exact SparseCore.Cfg.mem_ownCells.mpr ⟨rfl, (show ∀ s ∈ cellsU, s.isScoped .scVector = true by decide) s hs⟩
  rw [SparseCore.bigSep_sdiff_split' hsub, bigSep_map]
  unfold cellsU
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- The buffers the tile's run uses. -/
def refsU : Finset (Ref sig .scVector) := {cc0_scratch0, cc0_scratch1, cc0_scratch2, cc0_scratch3, cc0_scratch4, cc0_scratch5, cc0_scratch6}

/-- A buffer as the tile's own. -/
def refOf : Ref sig .scVector ↪ DevRef τ sig := ⟨fun b => (Proc.scVector (cV L) (jV L)).devRef b, fun _ _ e => Proc.devRef_injective _ e⟩

omit [FloatOps F] [Named F] in
theorem bufs_split : (SparseCore.Cfg.ownBufs (thr d L) : sProp 𝕄)
    = iprop(((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f) ∗ (∃ f, (thr d L).loc cc0_scratch6 ↦{fullShare} f))
        ∗ bigSep (SparseCore.Cfg.ownRefs (τ := τ) (.scVector (cV L) (jV L)) \ refsU.map (refOf L)) fun b => iprop(∃ f, ((d, b) : Loc nD τ sig) ↦{fullShare} f)) := by
  unfold SparseCore.Cfg.ownBufs
  have hsub : refsU.map (refOf L) ⊆ SparseCore.Cfg.ownRefs (τ := τ) (.scVector (cV L) (jV L)) := by
    intro g hg
    obtain ⟨b, hb, rfl⟩ := Finset.mem_map.1 hg
    unfold refsU at hb
    simp only [Finset.mem_insert, Finset.mem_singleton] at hb
    rcases hb with rfl | rfl | rfl | rfl | rfl | rfl | rfl <;> exact SparseCore.Cfg.mem_ownRefs_of_owner (p := Proc.scVector (cV L) (jV L)) rfl
  refine (SparseCore.bigSep_sdiff_split' hsub).trans ?_
  rw [bigSep_map]
  unfold refsU
  rw [SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

omit [FloatOps F] [Named F] in
theorem buf_b0 : (iprop(∃ f, (thr d L).loc cc0_scratch0 ↦{fullShare} f) : sProp 𝕄) = iprop(∃ y, buf (F := F) (e := .f32) d L b0 y) := by
  unfold buf
  exact congrArg _ (funext fun f => (owns_whole (thr d L) cc0_scratch0 fullShare f).symm)

omit [FloatOps F] [Named F] in
theorem buf_b1 : (iprop(∃ f, (thr d L).loc cc0_scratch1 ↦{fullShare} f) : sProp 𝕄) = iprop(∃ y, buf (F := F) (e := .f32) d L b1 y) := by
  unfold buf
  exact congrArg _ (funext fun f => (owns_whole (thr d L) cc0_scratch1 fullShare f).symm)

omit [FloatOps F] [Named F] in
theorem buf_b2 : (iprop(∃ f, (thr d L).loc cc0_scratch2 ↦{fullShare} f) : sProp 𝕄) = iprop(∃ y, buf (F := F) (e := .f32) d L b2 y) := by
  unfold buf
  exact congrArg _ (funext fun f => (owns_whole (thr d L) cc0_scratch2 fullShare f).symm)

omit [FloatOps F] [Named F] in
theorem buf_b3 : (iprop(∃ f, (thr d L).loc cc0_scratch3 ↦{fullShare} f) : sProp 𝕄) = iprop(∃ y, buf (F := F) (e := .f32) d L b3 y) := by
  unfold buf
  exact congrArg _ (funext fun f => (owns_whole (thr d L) cc0_scratch3 fullShare f).symm)

omit [FloatOps F] [Named F] in
theorem buf_bR : (iprop(∃ f, (thr d L).loc cc0_scratch4 ↦{fullShare} f) : sProp 𝕄) = iprop(∃ y, buf (F := F) (e := .f32) d L bR y) := by
  unfold buf
  exact congrArg _ (funext fun f => (owns_whole (thr d L) cc0_scratch4 fullShare f).symm)

omit [FloatOps F] [Named F] in
theorem buf_bT : (iprop(∃ f, (thr d L).loc cc0_scratch5 ↦{fullShare} f) : sProp 𝕄) = iprop(∃ y, buf (F := F) (e := .f32) d L bT y) := by
  unfold buf
  exact congrArg _ (funext fun f => (owns_whole (thr d L) cc0_scratch5 fullShare f).symm)

omit [FloatOps F] [Named F] in
theorem buf_bL : (iprop(∃ f, (thr d L).loc cc0_scratch6 ↦{fullShare} f) : sProp 𝕄) = iprop(∃ y, buf (F := F) (e := .i32) d L bL y) := by
  unfold buf
  exact congrArg _ (funext fun f => (owns_whole (thr d L) cc0_scratch6 fullShare f).symm)

omit [FloatOps F] [Named F] in
theorem both {ι : Type} (s : Finset ι) (A B : ι → sProp 𝕄) : bigSep s (fun i => iprop(A i ∗ B i)) = iprop(bigSep s A ∗ bigSep s B) := bigSep_sep s A B

omit [FloatOps F] [Named F] in
theorem ed_split (X : Buf (Elt F) (xLoc d)) (G : Buf (Elt F) (oLoc d)) : bigSep (Finset.range 4) (ed d L X G)
    = (iprop(bigSep (Finset.range 4) (ex d L X) ∗ bigSep (Finset.range 4) fun u => iprop((oLoc d ↦[pcs (R0 L + 8 * u) 98304 1664]{fullShare} G) ∗ (oLoc d ↦[pcs (R0 L + 8 * u) 99968 32]{fullShare} G))) : sProp 𝕄) := by
  exact both _ (ex d L X) _

/-- A run with what its end gives named, then what is shown of that. -/
theorem wp_wand_r' {α : Type} {p : TProg F L α} {P : sProp 𝕄} {A : α → sProp 𝕄} (h : P ⊢ WP p A) {Q : α → sProp 𝕄} :
    P ⊢ iprop((∀ a, A a -∗ Q a) -∗ WP p Q) := by
  iintro H Hk
  ihave H := h $$ H
  iapply (wp_wand frame (wpE (defs₀ (F := F)) 𝒱₀ (thr d L) none) Set.univ) $$ H
  iexact Hk

/-- What a tile takes, and gives back with `g` in place of the result. -/
def part (m : (ℓ : Loc nD τ sig) → Buf (Elt F) ℓ) (A : Finset S1024x100000.Idx) (B : Finset S1024.Idx) (g : S1024x100000.Idx → F .f32) : sProp 𝕄 :=
  iprop((xLoc d ↦[A]{fullShare} m (xLoc d)) ∗ (lLoc d ↦[B]{fullShare} m (lLoc d)) ∗ (oLoc d ↦[A]{fullShare} g))

set_option maxHeartbeats 4000000 in
/-- A tile's run, from its rows of the three arrays and its own buffers and semaphores. -/
theorem tile_body (m : (ℓ : Loc nD τ sig) → Buf (Elt F) ℓ) (O : CellTallies nD τ sig (HIx 1)) (W : Waits sig (HIx 1)) (hO : ∀ g, O g none = 0) :
    iprop(levAts (K (F := F)).L (K (F := F)).lev ∗ emp ∗ part d m (rws (R0 L) 32) (lpc (R0 L)) (m (oLoc d))
        ∗ scopedBufs (thr d L) ∗ scopedSems0 (thr d L) ∗ owes (thr d L) O W)
      ⊢ WP (KB L) fun _ => iprop(part d m (rws (R0 L) 32) (lpc (R0 L)) (outG (m (xLoc d)) (m (lLoc d))) ∗ scopedBufs (thr d L) ∗ scopedSems0 (thr d L)
            ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), cells_split, bufs_split,
    buf_b0, buf_b1, buf_b2, buf_b3, buf_bR, buf_bT, buf_bL]
  unfold part
  iintro ⟨#Hlv, -, ⟨Hx, Hl, Ho⟩, ⟨Hb, Hbr⟩, ⟨Hs, Hsr⟩, HO⟩
  ihave Hmw := ((K (F := F)).mayWaits_none (thr := thr d L) hO) $$ Hlv
  ihave Hx := (x_cut d L (m (xLoc d))) $$ Hx
  icases Hx with ⟨Hx, Hxe⟩
  ihave Ho := (o_cut d L (m (oLoc d))) $$ Ho
  icases Ho with ⟨Ho, Hoe⟩
  iapply (wp_wand_r' d L (body d L (m (xLoc d)) (m (lLoc d)) O W)) $$ [Hx Hxe Ho Hoe Hl Hb Hs HO Hmw]
  · isplitl [Hl]; · iexact Hl
    isplitl [Hx]; · iexact Hx
    isplitl [Ho]; · iexact Ho
    isplitl [Hxe Hoe]
    · rw [both]
      isplitl [Hxe]; · iexact Hxe
      iexact Hoe
    isplitl [Hb]; · iexact Hb
    isplitl [Hs]; · iexact Hs
    isplitl [HO]
    · unfold ow; iexists W
      isplitr
      · ipureintro; exact fun p hp => .inl hp
      iexact HO
    iexact Hmw
  iintro %_ ⟨Hl, Hx, Ho, Hq, He, Hb, Hs, HO⟩
  ihave He := (Entails.of_eq (ed_split d L (m (xLoc d)) (outG (m (xLoc d)) (m (lLoc d))))) $$ He
  icases He with ⟨Hxe, Hoe⟩
  ihave Hx := (x_join d L (m (xLoc d))) $$ [Hx Hxe]
  · isplitl [Hx]; · iexact Hx
    iexact Hxe
  ihave Ho := (o_join d L (outG (m (xLoc d)) (m (lLoc d)))) $$ [Ho Hq Hoe]
  · isplitl [Ho]; · iexact Ho
    isplitl [Hq]; · iexact Hq
    iexact Hoe
  isplitl [Hx Hl Ho]
  · isplitl [Hx]; · iexact Hx
    isplitl [Hl]; · iexact Hl
    iexact Ho
  isplitl [Hb Hbr]
  · isplitl [Hb]; · iexact Hb
    iexact Hbr
  isplitl [Hs Hsr]
  · isplitl [Hs]; · iexact Hs
    iexact Hsr
  unfold ow; iexact HO

end Part

end Cert.Proof.Arc

end
-- ==== Proof.Launch.lean ====
module

public import proofs.«01_k».proof.Proof.Tile

@[expose] public section

noncomputable section

namespace Cert.Proof.Arc

open Cert.KernelIdeal Cert.KernelIdeal.Gen
open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type}

local notation "𝕄" => MT nD τ sig (HIx 1) (Elt F) ℕ UU ℕ

section Launch

variable [FloatOps F] [Named F] (m : (ℓ : Loc nD τ sig) → Buf (Elt F) ℓ)

/-! ## The rows of a SparseCore and of a tile -/

/-- The rows of SparseCore `c`. -/
def crow (c : ℕ) : Finset S1024x100000.Idx := Finset.univ.filter fun i => (i 0).val / 32 % 2 = c
/-- Its labels. -/
def clab (c : ℕ) : Finset S1024.Idx := Finset.univ.filter fun i => (i 0).val / 32 % 2 = c

omit [FloatOps F] [Named F] in
theorem row_of {r c i : ℕ} (hc : c < 2) (h : 64 * i + 32 * c ≤ r ∧ r < 64 * i + 32 * c + 32) : r / 32 % 2 = c ∧ r / 64 = i := by omega

omit [FloatOps F] [Named F] in
theorem tiles_rows (c : ℕ) (hc : c < 2) : (Finset.univ : Finset (Fin 16)).biUnion (fun i => rws (64 * i.val + 32 * c) 32) = crow c := by
  ext x
  have hx : (x 0).val < 1024 := (x 0).isLt
  simp only [Finset.mem_biUnion, Finset.mem_univ, true_and, rws, crow, Finset.mem_filter]
  constructor
  · rintro ⟨i, h⟩; exact (row_of hc h).1
  · intro h; exact ⟨⟨(x 0).val / 64, by omega⟩, by dsimp only; omega⟩

omit [FloatOps F] [Named F] in
theorem tiles_labs (c : ℕ) (hc : c < 2) : (Finset.univ : Finset (Fin 16)).biUnion (fun i => lpc (64 * i.val + 32 * c)) = clab c := by
  ext x
  have hx : (x 0).val < 1024 := (x 0).isLt
  simp only [Finset.mem_biUnion, Finset.mem_univ, true_and, lpc, clab, Finset.mem_filter]
  constructor
  · rintro ⟨i, h⟩; exact (row_of hc h).1
  · intro h; exact ⟨⟨(x 0).val / 64, by omega⟩, by dsimp only; omega⟩

omit [FloatOps F] [Named F] in
theorem tiles_rows_ne (c : ℕ) (hc : c < 2) : ∀ i ∈ (Finset.univ : Finset (Fin 16)), ∀ j ∈ (Finset.univ : Finset (Fin 16)), i ≠ j →
    Disjoint (rws (64 * i.val + 32 * c) 32) (rws (64 * j.val + 32 * c) 32) := by
  intro i _ j _ h
  refine Finset.disjoint_left.mpr fun x h1 h2 => h (Fin.ext ?_)
  rw [← (row_of hc (Finset.mem_filter.1 h1).2).2, ← (row_of hc (Finset.mem_filter.1 h2).2).2]

omit [FloatOps F] [Named F] in
theorem tiles_labs_ne (c : ℕ) (hc : c < 2) : ∀ i ∈ (Finset.univ : Finset (Fin 16)), ∀ j ∈ (Finset.univ : Finset (Fin 16)), i ≠ j →
    Disjoint (lpc (64 * i.val + 32 * c)) (lpc (64 * j.val + 32 * c)) := by
  intro i _ j _ h
  refine Finset.disjoint_left.mpr fun x h1 h2 => h (Fin.ext ?_)
  rw [← (row_of hc (Finset.mem_filter.1 h1).2).2, ← (row_of hc (Finset.mem_filter.1 h2).2).2]

omit [FloatOps F] [Named F] in
theorem cores_rows : (Finset.univ : Finset (Fin 2)).biUnion (fun c => crow c.val) = Finset.univ := by
  ext x
  simp only [Finset.mem_biUnion, Finset.mem_univ, true_and, crow, Finset.mem_filter, iff_true]
  exact ⟨⟨(x 0).val / 32 % 2, Nat.mod_lt _ (by decide)⟩, rfl⟩

omit [FloatOps F] [Named F] in
theorem cores_labs : (Finset.univ : Finset (Fin 2)).biUnion (fun c => clab c.val) = Finset.univ := by
  ext x
  simp only [Finset.mem_biUnion, Finset.mem_univ, true_and, clab, Finset.mem_filter, iff_true]
  exact ⟨⟨(x 0).val / 32 % 2, Nat.mod_lt _ (by decide)⟩, rfl⟩

omit [FloatOps F] [Named F] in
theorem cores_rows_ne : ∀ i ∈ (Finset.univ : Finset (Fin 2)), ∀ j ∈ (Finset.univ : Finset (Fin 2)), i ≠ j → Disjoint (crow i.val) (crow j.val) :=
  fun _ _ _ _ h => Finset.disjoint_left.mpr fun _ h1 h2 => h (Fin.ext ((Finset.mem_filter.1 h1).2.symm.trans (Finset.mem_filter.1 h2).2))

omit [FloatOps F] [Named F] in
theorem cores_labs_ne : ∀ i ∈ (Finset.univ : Finset (Fin 2)), ∀ j ∈ (Finset.univ : Finset (Fin 2)), i ≠ j → Disjoint (clab i.val) (clab j.val) :=
  fun _ _ _ _ h => Finset.disjoint_left.mpr fun _ h1 h2 => h (Fin.ext ((Finset.mem_filter.1 h1).2.symm.trans (Finset.mem_filter.1 h2).2))

omit [FloatOps F] [Named F] in
/-- The three arrays' rows, cut into disjoint sets of rows. -/
theorem part_cut (d : Dev nD) {ι : Type} (s : Finset ι) (A : ι → Finset S1024x100000.Idx) (B : ι → Finset S1024.Idx) (g : S1024x100000.Idx → F .f32)
    (hA : ∀ i ∈ s, ∀ j ∈ s, i ≠ j → Disjoint (A i) (A j)) (hB : ∀ i ∈ s, ∀ j ∈ s, i ≠ j → Disjoint (B i) (B j)) :
    part d m (s.biUnion A) (s.biUnion B) g = bigSep s fun i => part d m (A i) (B i) g := by
  unfold part
  rw [both s (fun i => iprop(xLoc d ↦[A i]{fullShare} m (xLoc d))), both s (fun i => iprop(lLoc d ↦[B i]{fullShare} m (lLoc d))),
    ← pointsTo_biUnion s (ℓ := xLoc d) A hA, ← pointsTo_biUnion s (ℓ := lLoc d) B hB, ← pointsTo_biUnion s (ℓ := oLoc d) A hA]

/-! ## What the launch carries -/

/-- The result on every row. -/
abbrev res (d : Dev nD) : S1024x100000.Idx → F .f32 := outG (m (xLoc d)) (m (lLoc d))

/-- A SparseCore takes its rows of the three arrays and gives them back with the result written; so does each of its tiles. -/
def P : (K (F := F)).Pay (nD := nD) (Val := Elt F) (Name := ℕ) (U := UU) where
  st := fun _ d c => part d m (crow c.val) (clab c.val) (m (oLoc d))
  dn := fun _ d c => part d m (crow c.val) (clab c.val) (res m d)
  go := fun _ d c i => part d m (rws (64 * i.val + 32 * c.val) 32) (lpc (64 * i.val + 32 * c.val)) (m (oLoc d))
  td := fun _ d c i => part d m (rws (64 * i.val + 32 * c.val) 32) (lpc (64 * i.val + 32 * c.val)) (res m d)
  x := fun _ _ => iprop(emp)

omit [FloatOps F] [Named F] in
instance part_storable (d : Dev nD) (A : Finset S1024x100000.Idx) (B : Finset S1024.Idx) (g : S1024x100000.Idx → F .f32) :
    BI.Storable (upEmb : UEmb _ 𝕄) (part d m A B g) := by
  unfold part; infer_instance

instance P_storable : (P (F := F) m).IsStorable where
  st _ d c := by unfold P; infer_instance
  dn _ d c := by unfold P; infer_instance
  go _ _ _ _ := by unfold P; infer_instance
  td _ _ _ _ := by unfold P; infer_instance

/-- A grid point from its two coordinates. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => KB (F := F) (coordsV c s)) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's run is as the launch asks. -/
theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) m O W hO).trans (wp_mono frame _ _ fun _ => obl_post)

/-- A SparseCore's rows are its sixteen tiles' rows, before and after. -/
theorem core_cut (d : Dev nD) (c : Fin ((K (F := F)).nCore 0)) (g : S1024x100000.Idx → F .f32) :
    part d m (crow c.val) (clab c.val) g
      = bigSep Finset.univ fun i : Fin ((K (F := F)).nSub 0) => part d m (rws (64 * i.val + 32 * c.val) 32) (lpc (64 * i.val + 32 * c.val)) g := by
  have hc : c.val < 2 := c.isLt
  rw [← tiles_rows c.val hc, ← tiles_labs c.val hc]
  exact part_cut m d Finset.univ _ _ g (tiles_rows_ne c.val hc) (tiles_labs_ne c.val hc)

theorem vecSplit : (K (F := F)).VecSplit' (P m) 0 := by
  intro d c
  show iprop(part d m (crow c.val) (clab c.val) (m (oLoc d))) ⊢ |={Set.univ}=> iprop(
      (bigSep Finset.univ fun i : Fin ((K (F := F)).nSub 0) => part d m (rws (64 * i.val + 32 * c.val) 32) (lpc (64 * i.val + 32 * c.val)) (m (oLoc d)))
      ∗ ((bigSep Finset.univ fun i : Fin ((K (F := F)).nSub 0) => part d m (rws (64 * i.val + 32 * c.val) 32) (lpc (64 * i.val + 32 * c.val)) (res m d))
          -∗ part d m (crow c.val) (clab c.val) (res m d)))
  rw [core_cut m d c (m (oLoc d)), core_cut m d c (res m d)]
  iintro H; imodintro
  isplitl [H]; · iexact H
  iintro H; iexact H

/-! ## The launch's element -/

def u₀ : UU := (initOf (K (F := F)).hsCells (K (F := F)).hsToks, 1)

omit [FloatOps F] [Named F] in
theorem none_held {ι : Type} (s : Finset ι) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [none_held]; iempintro
  unfold P; dsimp only
  rw [show (bigSep Finset.univ fun _ : Thread nD τ => bigSep Finset.univ fun _ : Fin 1 => (iprop(emp) : sProp 𝕄)) = iprop(emp) from by
    rw [bigSep_congr fun _ _ => none_held _, none_held]]
  iempintro

/-! ## The TensorCore's program -/

omit [FloatOps F] [Named F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (lLoc d ↦{fullShare} W main_arg1) ∗ (eLoc d ↦{fullShare} W main_arg2) ∗ oLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

/-- The two SparseCores' rows are all the rows. -/
theorem cores_cut (d : Dev nD) (g : S1024x100000.Idx → F .f32) :
    (bigSep Finset.univ fun c : Fin ((K (F := F)).nCore 0) => part d m (crow c.val) (clab c.val) g) = part d m Finset.univ Finset.univ g := by
  rw [← cores_rows, ← cores_labs]
  exact (part_cut m d (Finset.univ : Finset (Fin 2)) _ _ g cores_rows_ne cores_labs_ne).symm

/-- What the program leaves: the logits, the labels and the embeddings as they were, and the result. -/
abbrev FIN (d : Dev nD) : sProp 𝕄 := iprop(part d m Finset.univ Finset.univ (res m d) ∗ eLoc d ↦{fullShare} m (eLoc d))

variable (ρ : Dev nD → PrngReg)

/-- The TensorCore's program: the one call, which takes the three arrays and brings them back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hl, He, Ho⟩, Hts, -⟩, -⟩
  iapply ((K (F := F)).wp_run (D (F := F)) 𝒱 (EH := EH) (P := P m) κ d 0) $$ [Hst Hx Hl Ho He Hb Hts]
  isplitr; · iexact Hctx
  isplitl [Hst]; · iexact Hst
  isplitl [Hx Hl Ho]
  · iapply (Entails.of_eq (cores_cut m d (m (oLoc d))).symm)
    unfold part
    isplitl [Hx]; · iexact Hx
    isplitl [Hl]; · iexact Hl
    iexact Ho
  iintro ⟨Hst, Hdn⟩
  ihave Hdn' := (Entails.of_eq (show (bigSep Finset.univ fun c : Fin ((K (F := F)).nCore 0) => (P m).dn 0 d c) = _ from cores_cut m d (res m d))) $$ Hdn
  imodintro
  isplitl [Hst]; · iexact Hst
  isplitr [Hb Hts]
  · isplitl [Hdn']; · iexact Hdn'
    iexact He
  isplitl [Hb] <;> iassumption

/-- The memory a run ends with, on one device. -/
def fq (d : Dev nD) (s' : Phys nD τ sig (Elt F)) : Prop :=
  s'.mem.mem (xLoc d) = m (xLoc d) ∧ s'.mem.mem (lLoc d) = m (lLoc d) ∧ s'.mem.mem (eLoc d) = m (eLoc d) ∧ s'.mem.mem (oLoc d) = res m d

theorem hfin (d : Dev nD) (s' : Phys nD τ sig (Elt F)) : iprop(FIN m d ∗ SI s') ⊢ (⌜fq m d s'⌝ : sProp 𝕄) := by
  unfold FIN part
  iintro ⟨⟨⟨Hx, Hl, Ho⟩, He⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := lLoc d) (I := Finset.univ) (q := fullShare) (f := m (lLoc d)))) $$ [HSI Hl]
  · isplitl [HSI] <;> iassumption
  icases H with ⟨%h2, HSI, -⟩
  ihave H := (persistent_entails_right (SI_pointsTo_agree (st := s') (ℓ := eLoc d) (I := Finset.univ) (q := fullShare) (f := m (eLoc d)))) $$ [HSI He]
  · isplitl [HSI] <;> iassumption
  icases H with ⟨%h3, HSI, -⟩
  ihave H := (SI_pointsTo_agree (st := s') (ℓ := oLoc d) (I := Finset.univ) (q := fullShare) (f := res m d)) $$ [HSI Ho]
  · isplitl [HSI] <;> iassumption
  icases H with %h4
  ipureintro
  exact ⟨funext fun i => h1 i (Finset.mem_univ i), funext fun i => h2 i (Finset.mem_univ i), funext fun i => h3 i (Finset.mem_univ i), funext fun i => h4 i (Finset.mem_univ i)⟩

/-- The final states of the program: the arguments as they were, the result `res`, every semaphore at zero. -/
def QC : PUnit × MemSt nD τ sig (Elt F) → Prop := fun r =>
  (∀ c : Dev nD, r.2.mem (xLoc c) = m (xLoc c) ∧ r.2.mem (lLoc c) = m (lLoc c) ∧ r.2.mem (eLoc c) = m (eLoc c) ∧ r.2.mem (oLoc c) = res m c) ∧ r.2.sem = fun _ => 0

/-- Every run of the program ends in such a state. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Launch

end Cert.Proof.Arc

end
-- ==== Proof.Printed.State.lean ====
module

public import proofs.«01_k».proof.Proof.Printed.Steps

@[expose] public section

noncomputable section

namespace Cert.Proof.ArcP

open Cert.Kernel Cert.Kernel.Gen
open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Tactic

variable {F : FTy → Type}

local notation "𝕄" => MT nD τ sig (HIx 1) (Elt F) ℕ UU ℕ

section Part

variable [FloatOps F] (d : Dev nD) (L : grid0.Coords)

local notation "WP" => wp frame (wpE (defs₀ (F := F)) 𝒱₀ (thr d L) none) Set.univ

/-- Slab `k`'s piece of the logits, when there is such a slab. -/
def xp (X : Buf (Elt F) (xLoc d)) (k : ℕ) : sProp 𝕄 := if k < 128 then iprop(xLoc d ↦[pcs (gR L k) (gC k) 3072]{fullShare} X) else iprop(emp)

/-- Slab `k`'s piece of the result, not written yet. -/
def ot (k : ℕ) : sProp 𝕄 := iprop(∃ f : Buf (Elt F) (oLoc d), oLoc d ↦[pcs (gR L k) (gC k) 3072]{fullShare} f)

/-- Slab `k - 1`'s piece of the result, written, when it is one of the first 124. -/
def oq (G : Buf (Elt F) (oLoc d)) (k : ℕ) : sProp 𝕄 :=
  if 1 ≤ k ∧ k ≤ 124 then iprop(oLoc d ↦[pcs (gR L (k - 1)) (gC (k - 1)) 3072]{fullShare} G) else iprop(emp)

/-- A buffer at the start of trip `t`: slab `g`'s logits on their way in, or, after the last trip, slab `g - 4`'s results on their way out. -/
def St (X G : S1024x100000.Idx → F .f32) (b : Memref sig .scVector .vmem (S8 3072) .f32) (smI smO : DmaSem sig) (t g : ℕ) : sProp 𝕄 :=
  if t < 32 then iprop(inFl d L X b smI (gR L g) (gC g) ∗ semVal (thr d L, .dma smO) 0)
  else iprop(outFl d L G b smO (gR L (g - 4)) (gC (g - 4)) ∗ semVal (thr d L, .dma smI) 0)

/-- The last buffer at the start of trip `t`: unused yet, or slab `4 t - 1`'s results on their way out. -/
def St3 (G : S1024x100000.Idx → F .f32) (t : ℕ) : sProp 𝕄 :=
  if t = 0 then iprop((∃ y, buf (F := F) (e := .f32) d L b3 y) ∗ semVal (thr d L, .dma cc0_scratch14.sem) 0 ∗ semVal (thr d L, .dma cc0_scratch10.sem) 0)
  else iprop(outFl d L G b3 cc0_scratch14.sem (gR L (4 * t - 1)) (gC (4 * t - 1)) ∗ semVal (thr d L, .dma cc0_scratch10.sem) 0)

/-- The labels' masks, safe columns and looked-up logits of slab `4 t + b`. -/
abbrev cW (t : ℕ) (b : BitVec 32) : BitVec 32 := Scalar.muli (Scalar.andi (slabW t b) 31#32) 3072#32
abbrev mk (Lb : S1024.Idx → BitVec 32) (g t : ℕ) (b : BitVec 32) : IVec S16 1 := maskV (labVec Lb (gR L g)) (cW t b) 3072#32
abbrev sf (Lb : S1024.Idx → BitVec 32) (g t : ℕ) (b : BitVec 32) : IVec S16 32 := safeV (labVec Lb (gR L g)) (cW t b) 3072#32

/-- The looked-up columns of a slab are the buffer's. -/
theorem sf_ok' (Lb : S1024.Idx → BitVec 32) (t : Fin 32) {g : ℕ} {b : BitVec 32} (hg : g < 128) (h0 : cW t.val b = BitVec.ofNat 32 (gC g)) :
    ∀ a x, ((![lane8, sf L Lb g t.val b] : Fin 2 → IVec S16 32) a x).toNat < S8x3072.size a :=
  idx_ok _ h0 rfl (slab_in L hg).2 (by decide)

/-- The logits looked up at the labels' columns of a slab. -/
abbrev lk (X : S1024x100000.Idx → F .f32) (Lb : S1024.Idx → BitVec 32) (g t : ℕ) (b : BitVec 32)
    (h : ∀ a x, ((![lane8, sf L Lb g t b] : Fin 2 → IVec S16 32) a x).toNat < S8x3072.size a) : FVec F S16 .f32 :=
  loadIdx (F := F) (e := .f32) (win 3072 X (gR L g) (gC g)) ![lane8, sf L Lb g t b] h

end Part

end Cert.Proof.ArcP

end
-- ==== Proof.Frames.lean ====
/-
  The claims about the kernel alone: its printed program and its idealization run, end with their arguments as they
  were and every semaphore at zero; and the one named constant is the float it stands for, rounded.
-/
module

public import proofs.«01_k».proof.Proof.Launch
public import proofs.«01_k».proof.Proof.Printed.Launch
public import proofs.«01_k».proof.Proof.Gen.ReferenceIdeal.Run

@[expose] public section

noncomputable section

namespace Cert.Proof.Arc

open Idealize.ShloMosaic Idealize.SL.Sem

/-- The printed program's runs. -/
theorem frame_kernel : Cert.quiescent_Kernel := fun m ρ _ =>
  (θ_run Cert.Kernel.defs _ _).mono (fun _ h => ⟨fun c => ⟨(h.1 c).1, (h.1 c).2.1, (h.1 c).2.2.1⟩, h.2⟩) (ArcP.run_main (F := Bits) m ρ)

/-- The idealized program's runs. -/
theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩) (run_main (F := Ideal) m ρ)

/-- The reference's runs. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constant's value is the one the table gives. -/
theorem named : Cert.preserves_Kernel_KernelIdeal :=
  IdealRules.named_const.statement Cert.KernelIdeal.κ "cos_m" .f32 0x3F60A940#32 _ rfl

end Cert.Proof.Arc

end
-- ==== Proof.Consts.lean ====
/-
  The real numbers that the programs' float words stand for.
-/
module

public import Idealize.ShloMosaic.PureOps.Ideal

@[expose] public section

noncomputable section

namespace Cert.Proof.Arc

open Idealize.ShloMosaic

/-- The kernel's sine of the margin, as a real number. -/
abbrev sinM : ℝ := 4021713 / 8388608

theorem word_zero : Ideal.ofBits .f32 0x00000000#32 = ((0 : ℝ) : EReal) := by
  simp [Ideal.ofBits, Ideal.ieee, -EReal.coe_mul]

theorem word_one : Ideal.ofBits .f32 0x3F800000#32 = ((1 : ℝ) : EReal) := by
  simp [Ideal.ofBits, Ideal.ieee, -EReal.coe_mul]; norm_num

theorem word_neg_one : Ideal.ofBits .f32 0xBF800000#32 = ((-1 : ℝ) : EReal) := by
  simp [Ideal.ofBits, Ideal.ieee, -EReal.coe_mul]; norm_num

theorem word_64 : Ideal.ofBits .f32 0x42800000#32 = ((64 : ℝ) : EReal) := by
  simp [Ideal.ofBits, Ideal.ieee, -EReal.coe_mul]; norm_num

theorem word_sin : Ideal.ofBits .f32 0x3EF57744#32 = ((sinM : ℝ) : EReal) := by
  simp [Ideal.ofBits, Ideal.ieee, -EReal.coe_mul, sinM]; norm_num

end Cert.Proof.Arc

end
-- ==== Proof.Angle.lean ====
/-
  One element over the reals: what the kernel makes of a logit is 64 times the cosine of its angle, with the margin added
  at the label.
-/
module

public import proofs.«01_k».proof.Proof.Vals
public import proofs.«01_k».proof.Proof.Consts
public import Mathlib.Analysis.SpecialFunctions.Trigonometric.Inverse

@[expose] public section

noncomputable section

namespace Cert.Proof.Arc

open Idealize.ShloMosaic

/-- The named constant is the cosine whose sine is `sinM`. -/
theorem cos_named :
    Named.named (F := Ideal) Cert.KernelIdeal.κ "cos_m" (φ := .f32) 0x3F60A940#32 = ((Real.sqrt (1 - sinM ^ 2) : ℝ) : EReal) := by
  rw [show (1 - sinM ^ 2 : ℝ) = 54194568723295 / 70368744177664 from by norm_num [sinM]]
  exact IdealRules.named_const.ideal_named_scalar _ _ _ _ rfl

/-- The cosine of the angle whose cosine is `x`, increased by the angle whose sine is `s`. -/
theorem cos_sum {x s : ℝ} (hx : -1 ≤ x ∧ x ≤ 1) (hs : -1 ≤ s ∧ s ≤ 1) :
    Real.cos (Real.arccos x + Real.arcsin s) = x * Real.sqrt (1 - s ^ 2) - Real.sqrt (1 - x ^ 2) * s := by
  rw [Real.cos_add, Real.cos_arccos hx.1 hx.2, Real.sin_arccos, Real.cos_arcsin, Real.sin_arcsin hs.1 hs.2]

theorem sinM_mem : -1 ≤ sinM ∧ sinM ≤ 1 := by constructor <;> norm_num [sinM]

/-- The kernel's value at a label, for a logit in the cosine's range. -/
theorem fv_real {x : ℝ} (hx : -1 ≤ x ∧ x ≤ 1) :
    fv (F := Ideal) (x : EReal) = ((Real.cos (Real.arccos x + Real.arcsin sinM) : ℝ) : EReal) := by
  have h0 : (0 : ℝ) ≤ 1 - x * x := by nlinarith [hx.1, hx.2]
  have hm : max (((1 : ℝ) : EReal) - (x : EReal) * (x : EReal)) ((0 : ℝ) : EReal) = ((1 - x * x : ℝ) : EReal) := by
    rw [← EReal.coe_mul, ← EReal.coe_sub]
    exact max_eq_left (EReal.coe_le_coe_iff.2 h0)
  rw [cos_sum hx sinM_mem, fv, cos_named]
  simp only [Ideal.subf_def, Ideal.mulf_def, Ideal.sqrt_def, Ideal.maximumf_def, Scalar.ofBits, Ideal.ofBits_def, word_one, word_zero, word_sin]
  rw [hm, Ideal.sqrt_coe, if_neg (not_lt.2 h0), ← EReal.coe_mul, ← EReal.coe_mul, ← EReal.coe_sub, show x * x = x ^ 2 from (sq x).symm]

/-- A real increased by its difference from another is the other. -/
theorem add_diff (x y : ℝ) : (x : EReal) + ((y : EReal) - (x : EReal)) = (y : EReal) := by
  rw [← EReal.coe_sub, ← EReal.coe_add]; congr 1; ring

end Cert.Proof.Arc

end
-- ==== Proof.Landing.lean ====
/-
  The reference's sum into the matrix of angles: row `r` gets its margin at the column that its index pair names.
-/
module

public import proofs.«01_k».proof.ReferenceIdeal
public import Idealize.ShloMosaic.PureOps.Ideal
public import Idealize.ShloMosaic.Lib.Routing.OpsPair

@[expose] public section

noncomputable section

namespace Cert.Proof.Arc

open Idealize.ShloMosaic Idealize.ShloMosaic.ValueIdx Cert.ReferenceIdeal

variable [Cert.ReferenceIdeal.Facts₀]

/-- Where the pair of row `k` is read for its component `q`. -/
theorem pair_at (k : S1024.Idx) (q : Fin 2) (idx : IVec S1024x2 32) :
    (scatter_S1024x100000_S1024x2_S1024_n_01_01_1).start k idx q = (idx (ix2 (k 0) q)).toInt := by
  have hm : q ∈ (scatter_S1024x100000_S1024x2_S1024_n_01_01_1).scatterDimsToOperandDims := by
    show q ∈ [(0 : Fin 2), 1]
    fin_cases q <;> simp
  unfold ScatterDims.start
  rw [dif_pos hm]
  refine congrArg (fun i => (idx i).toInt) (funext fun b => Fin.ext ?_)
  match b with
  | ⟨0, _⟩ =>
    unfold ScatterDims.siIdx
    rw [dif_neg (by show ¬(0 = 1); decide)]
    unfold ScatterDims.siCoord
    simp only [Fin.val_cast]
    have e : ∀ a : Fin 1, (k a).val = (k 0).val := fun a => by
      obtain rfl : a = 0 := Subsingleton.elim _ _
      rfl
    exact e _
  | ⟨1, _⟩ =>
    unfold ScatterDims.siIdx
    rw [dif_pos (by show 1 = 1; rfl)]
    show List.idxOf q [(0 : Fin 2), 1] = q.val
    fin_cases q <;> rfl

theorem no_window (k : S1024.Idx) (q : Fin 2) : (scatter_S1024x100000_S1024x2_S1024_n_01_01_1).window k q = 0 := by
  unfold ScatterDims.window
  rw [dif_neg fun h => (of_decide_eq_true (List.mem_filter.1 h).2) (by show q ∈ [(0 : Fin 2), 1]; fin_cases q <;> simp)]

/-- Row `k`'s margin lands at `(r, c)` exactly when its pair of words, read signed, is `(r, c)`. -/
theorem lands_iff (k : S1024.Idx) (idx : IVec S1024x2 32) (i : S1024x100000.Idx) :
    (scatter_S1024x100000_S1024x2_S1024_n_01_01_1).resultIdx? k idx = some i ↔
      (idx (ix2 (k 0) (0 : Fin 2))).toInt = ((i 0).val : Int) ∧ (idx (ix2 (k 0) (1 : Fin 2))).toInt = ((i 1).val : Int) := by
  rw [Routing.resultIdx?_eq_some]
  have h : ∀ q : Fin 2, (scatter_S1024x100000_S1024x2_S1024_n_01_01_1).start k idx q
      + ((scatter_S1024x100000_S1024x2_S1024_n_01_01_1).window k q : Int) = (idx (ix2 (k 0) q)).toInt := fun q => by
    rw [pair_at, no_window, Nat.cast_zero, add_zero]
  constructor
  · exact fun e => ⟨(h 0).symm.trans (e 0), (h 1).symm.trans (e 1)⟩
  · intro e q
    match q with
    | ⟨0, _⟩ => exact (h 0).trans e.1
    | ⟨1, _⟩ => exact (h 1).trans e.2

/-- The sum at one element, when the first word of row `k`'s pair is `k`. -/
theorem landed (x : FVec Ideal S1024x100000 .f32) (idx : IVec S1024x2 32) (u : FVec Ideal S1024 .f32)
    (hrow : ∀ k : S1024.Idx, (idx (ix2 (k 0) (0 : Fin 2))).toInt = ((k 0).val : Int)) (i : S1024x100000.Idx) :
    Host.scatterAdd scatter_S1024x100000_S1024x2_S1024_n_01_01_1 x idx u i
      = ((x i : EReal) + if (idx (ix2 (i 0) (1 : Fin 2))).toInt = ((i 1).val : Int) then (u (ix1 (i 0)) : EReal) else 0 : EReal) := by
  show (x i : EReal) + ∑ k ∈ Finset.univ.filter (fun k => (scatter_S1024x100000_S1024x2_S1024_n_01_01_1).resultIdx? k idx = some i), (u k : EReal) = _
  refine congrArg (fun t : EReal => (x i : EReal) + t) ?_
  have hk : ∀ k : S1024.Idx, (scatter_S1024x100000_S1024x2_S1024_n_01_01_1).resultIdx? k idx = some i ↔
      k = ix1 (i 0) ∧ (idx (ix2 (i 0) (1 : Fin 2))).toInt = ((i 1).val : Int) := fun k => by
    rw [lands_iff, hrow]
    constructor
    · rintro ⟨a, b⟩
      have e : k 0 = i 0 := Fin.ext (by exact_mod_cast a)
      exact ⟨(eq_ix1 k).trans (congrArg ix1 e), by rw [← e]; exact b⟩
    · rintro ⟨rfl, b⟩
      exact ⟨rfl, b⟩
  by_cases hc : (idx (ix2 (i 0) (1 : Fin 2))).toInt = ((i 1).val : Int)
  · rw [if_pos hc]
    exact Finset.sum_eq_single_of_mem (f := fun k : S1024.Idx => (u k : EReal)) (ix1 (i 0))
      (Finset.mem_filter.2 ⟨Finset.mem_univ _, (hk _).2 ⟨rfl, hc⟩⟩) (fun b hb hne => absurd ((hk b).1 (Finset.mem_filter.1 hb).2).1 hne)
  · rw [if_neg hc]
    refine Finset.sum_eq_zero fun b hb => absurd ((hk b).1 (Finset.mem_filter.1 hb).2).2 hc

end Cert.Proof.Arc

end
-- ==== Proof.Pairs.lean ====
/-
  Two columns of words side by side, read in a row: the first at 0, the second at 1.
-/
module

public import proofs.«01_k».proof.Proof.Gen.ReferenceIdeal
public import Idealize.ShloMosaic.Lib.ValueIdx
public import Idealize.ShloMosaic.Lib.Pointwise

@[expose] public section

noncomputable section

namespace Cert.Proof.Arc

open Idealize.ShloMosaic Cert.ReferenceIdeal Cert.ReferenceIdeal.Gen

/-- The two columns side by side. -/
abbrev beside (a b : IVec S1024 32) : IVec S1024x2 32 :=
  concatenate S1024x2 1 [⟨S1024x1, broadcastInDim S1024x1 ![0] bcast_S1024_S1024x1_0 a⟩, ⟨S1024x1, broadcastInDim S1024x1 ![0] bcast_S1024_S1024x1_0 b⟩]
    concatenates_S1024x1_S1024x1_S1024x2_d1

theorem beside_zero (a b : IVec S1024 32) (k : Fin 1024) : beside a b (ValueIdx.ix2 k (0 : Fin 2)) = a (ValueIdx.ix1 k) := by
  pointwise
  rfl

theorem beside_one (a b : IVec S1024 32) (k : Fin 1024) : beside a b (ValueIdx.ix2 k (1 : Fin 2)) = b (ValueIdx.ix1 k) := by
  pointwise
  rfl

end Cert.Proof.Arc

end
-- ==== Proof.Cosines.lean ====
/-
  The precondition `cosines`: the logits are cosines and no label is below -1.
-/
module

public import proofs.«01_k».proof.Pre_cosines
public import proofs.«01_k».proof.Proof.Consts
public import Idealize.ShloMosaic.Lib.ReduceAll
public import Idealize.ShloMosaic.Lib.ValueIdx

@[expose] public section

noncomputable section

namespace Cert.Proof.Arc

open Idealize.ShloMosaic Cert.Pre_cosines

theorem facts_cosines : Cert.Pre_cosines.Facts where
  bcast_S_S1024x100000 := by decide
  reducesTo_S1024x100000_S_d0_1 := by decide
  h_S_ := by decide
  bcast_S_S1024 := by decide
  reducesTo_S1024_S_d0 := by decide

theorem bit_true (b : Bool) : BitVec.ofBool b = 1#1 → b = true := by revert b; decide

/-- A logit that the precondition admits is a real number in the cosine's range. -/
theorem real_of {y : EReal} (h : ((-1 : ℝ) : EReal) ≤ y ∧ y ≤ ((1 : ℝ) : EReal)) : ∃ r : ℝ, y = (r : EReal) ∧ -1 ≤ r ∧ r ≤ 1 := by
  induction y with
  | bot => exact absurd h.1 (not_le.2 (EReal.bot_lt_coe _))
  | top => exact absurd h.2 (not_le.2 (EReal.coe_lt_top _))
  | coe r => exact ⟨r, rfl, EReal.coe_le_coe_iff.1 h.1, EReal.coe_le_coe_iff.1 h.2⟩

variable [hF : Cert.Pre_cosines.Facts]

/-- What the precondition says of one logit and of one label. -/
theorem of_cosines (x : FVec Ideal S1024x100000 .f32) (l : IVec S1024 32) (e : FVec Ideal S1024x128 .f32)
    (h : Cert.Pre_cosines.fn (F := Ideal) x l e = fun _ => 1#1) :
    (∀ i, ((-1 : ℝ) : EReal) ≤ x i ∧ (x i : EReal) ≤ ((1 : ℝ) : EReal)) ∧ ∀ k, -1 ≤ (l k).toInt := by
  have h0 := congrFun h (fun a => a.elim0)
  dsimp only [fn] at h0
  have h1 := (IntOp.andi_eq_one.1 h0).1
  have h2 := (IntOp.andi_eq_one.1 h0).2
  refine ⟨fun i => ?_, fun k => ?_⟩
  · have h3 := Host.reduce_andi_all _ _ _ _ _ h1 i
    have h4 := IntOp.andi_eq_one.1 h3
    have lo : BitVec.ofBool (decide (Ideal.ofBits .f32 0xBF800000#32 ≤ (x i : EReal))) = 1#1 := h4.1
    have hi : BitVec.ofBool (decide ((x i : EReal) ≤ Ideal.ofBits .f32 0x3F800000#32)) = 1#1 := h4.2
    have lo' := of_decide_eq_true (bit_true _ lo)
    have hi' := of_decide_eq_true (bit_true _ hi)
    rw [word_neg_one] at lo'
    rw [word_one] at hi'
    exact ⟨lo', hi'⟩
  · exact IntOp.cmpi_sge.1 (Host.reduce_andi_all _ _ _ _ _ h2 k)

end Cert.Proof.Arc

end
-- ==== Proof.Value.lean ====
/-
  The value: over the reals the reference's result is what the kernel writes.
-/
module

public import proofs.«01_k».proof.Proof.Frames
public import proofs.«01_k».proof.Proof.Angle
public import proofs.«01_k».proof.Proof.Landing
public import proofs.«01_k».proof.Proof.Pairs
public import proofs.«01_k».proof.Proof.Cosines
public import proofs.«01_k».proof.Proof.Gen.ReferenceIdeal.Run

@[expose] public section

noncomputable section

namespace Cert.Proof.Arc

open Idealize.ShloMosaic Idealize.SL.Sem
open Cert.ReferenceIdeal Cert.ReferenceIdeal.Gen

/-! ## The reference's arrays -/

/-- The labels with 0 in place of -1, the column's count added to the negative ones. -/
abbrev refLab (l : IVec S1024 32) : IVec S1024 32 :=
  select (cmpi .ne l (broadcastInDim S1024 ![] bcast_S_S1024 (constantI S_ 32 4294967295#32))) l (broadcastInDim S1024 ![] bcast_S_S1024 (id (constantI S_ 32 0#32)))
abbrev refCol (l : IVec S1024 32) : IVec S1024 32 :=
  select (cmpi .slt (refLab l) (broadcastInDim S1024 ![] bcast_S_S1024 (constantI S_ 32 0#32)))
    (addi (refLab l) (broadcastInDim S1024 ![] bcast_S_S1024 (constantI S_ 32 100000#32))) (refLab l)
/-- The rows' numbers. -/
abbrev refRow : IVec S1024 32 :=
  select (cmpi .slt (iotaInDim S1024 32 0) (broadcastInDim S1024 ![] bcast_S_S1024 (constantI S_ 32 0#32)))
    (addi (iotaInDim S1024 32 0) (broadcastInDim S1024 ![] bcast_S_S1024 (constantI S_ 32 1024#32))) (iotaInDim S1024 32 0)
/-- Each row's pair. -/
abbrev refIdx (l : IVec S1024 32) : IVec S1024x2 32 := beside refRow (refCol l)
/-- Each row's margin. -/
abbrev refMar (l : IVec S1024 32) : FVec Ideal S1024 .f32 :=
  select (cmpi .ne l (broadcastInDim S1024 ![] bcast_S_S1024 (constantI S_ 32 4294967295#32)))
    (broadcastInDim S1024 ![] bcast_S_S1024 (Host.asin (constant S_ .f32 0x3EF57744#32)))
    (broadcastInDim S1024 ![] bcast_S_S1024 (constant S_ .f32 0x00000000#32))
/-- The result. -/
abbrev refRes (x : FVec Ideal S1024x100000 .f32) (l : IVec S1024 32) : FVec Ideal S1024x100000 .f32 :=
  mulf (addf x (subf (Host.cos (Host.scatterAdd scatter_S1024x100000_S1024x2_S1024_n_01_01_1 (Host.acos x) (refIdx l) (refMar l))) x))
    (broadcastInDim S1024x100000 ![] bcast_S_S1024x100000 (constant S_ .f32 0x42800000#32))

/-! ## Read at an index -/

/-- A row's number is not negative. -/
theorem refRow_int (k : Fin 1024) : (refRow (ValueIdx.ix1 k)).toInt = (k.val : Int) := by
  have hk := k.isLt
  have e : (BitVec.ofNat 32 k.val).toInt = (k.val : Int) := by
    rw [BitVec.toInt_eq_toNat_cond, BitVec.toNat_ofNat, Nat.mod_eq_of_lt (by omega), if_pos (by omega)]
  show (if BitVec.ofBool (BitVec.slt (BitVec.ofNat 32 k.val) 0#32) = 1#1 then _ else BitVec.ofNat 32 k.val : BitVec 32).toInt = _
  rw [if_neg, e]
  rw [ofBool1, BitVec.slt_eq_decide, decide_eq_true_iff, e]
  show ¬((k.val : Int) < 0)
  omega

theorem refLab_at (l : IVec S1024 32) (k : S1024.Idx) : refLab l k = if l k = 4294967295#32 then 0#32 else l k := by
  show (if BitVec.ofBool (l k != 4294967295#32) = 1#1 then l k else 0#32) = _
  by_cases h : l k = 4294967295#32
  · rw [if_pos h, if_neg (by rw [h]; decide)]
  · rw [if_neg h, if_pos (by rw [ofBool1, bne_iff_ne]; exact h)]

/-- A row's column, when its label is at least -1. -/
theorem refCol_int (l : IVec S1024 32) (k : S1024.Idx) (h : -1 ≤ (l k).toInt) :
    (refCol l k).toInt = if l k = 4294967295#32 then 0 else ((l k).toNat : Int) := by
  have hn : (refLab l k).toInt = if l k = 4294967295#32 then 0 else ((l k).toNat : Int) := by
    rw [refLab_at]
    by_cases e : l k = 4294967295#32
    · rw [if_pos e, if_pos e]; rfl
    · rw [if_neg e, if_neg e]
      have hne : (l k).toNat ≠ 4294967295 := fun q => e (BitVec.eq_of_toNat_eq q)
      have hlt := (l k).isLt
      rw [BitVec.toInt_eq_toNat_cond] at h ⊢
      split at h <;> rename_i q
      · rw [if_pos q]
      · exfalso; omega
  have h0 : 0 ≤ (refLab l k).toInt := by rw [hn]; split <;> omega
  show (if BitVec.ofBool (BitVec.slt (refLab l k) 0#32) = 1#1 then _ else refLab l k : BitVec 32).toInt = _
  rw [if_neg, hn]
  rw [ofBool1, BitVec.slt_eq_decide, decide_eq_true_iff]
  exact not_lt.2 h0

theorem refMar_at (l : IVec S1024 32) (k : S1024.Idx) :
    (refMar l k : EReal) = ((if l k = 4294967295#32 then 0 else Real.arcsin sinM : ℝ) : EReal) := by
  show (if BitVec.ofBool (l k != 4294967295#32) = 1#1 then Ideal.asin (Ideal.ofBits .f32 0x3EF57744#32) else Ideal.ofBits .f32 0x00000000#32 : EReal) = _
  by_cases h : l k = 4294967295#32
  · rw [if_pos h, if_neg (by rw [h]; decide), word_zero]
  · rw [if_neg h, if_pos (by rw [ofBool1, bne_iff_ne]; exact h), word_sin, Ideal.asin_coe, if_pos sinM_mem]

/-- The reference's result is the kernel's. -/
theorem same_value (x : FVec Ideal S1024x100000 .f32) (l : IVec S1024 32)
    (hx : ∀ i, ((-1 : ℝ) : EReal) ≤ x i ∧ (x i : EReal) ≤ ((1 : ℝ) : EReal)) (hl : ∀ k, -1 ≤ (l k).toInt) :
    refRes x l = outG (F := Ideal) x l := by
  funext i
  obtain ⟨r, hr, hr1⟩ := real_of (hx i)
  have hlab : labAt l (i 0).val = l (ValueIdx.ix1 (i 0)) := congrArg (fun k : Fin 1024 => l (ValueIdx.ix1 k)) (Fin.ext (Nat.mod_eq_of_lt (show (i 0).val < 1024 from (i 0).isLt)))
  have hrow : ∀ k : S1024.Idx, (refIdx l (ValueIdx.ix2 (k 0) (0 : Fin 2))).toInt = ((k 0).val : Int) := fun k =>
    (congrArg BitVec.toInt (beside_zero refRow (refCol l) (k 0))).trans (refRow_int (k 0))
  have hcol : (refIdx l (ValueIdx.ix2 (i 0) (1 : Fin 2))).toInt = if l (ValueIdx.ix1 (i 0)) = 4294967295#32 then 0 else ((l (ValueIdx.ix1 (i 0))).toNat : Int) :=
    (congrArg BitVec.toInt (beside_one refRow (refCol l) (i 0))).trans (refCol_int l _ (hl _))
  -- the angle at `i`
  have hang : Host.scatterAdd scatter_S1024x100000_S1024x2_S1024_n_01_01_1 (Host.acos x) (refIdx l) (refMar l) i
      = ((Real.arccos r + if (l (ValueIdx.ix1 (i 0))).toNat = (i 1).val then Real.arcsin sinM else 0 : ℝ) : EReal) := by
    have ha : (Host.acos x i : EReal) = ((Real.arccos r : ℝ) : EReal) := by
      show Ideal.acos (x i) = _
      rw [hr, Ideal.acos_coe, if_pos hr1]
    rw [landed (Host.acos x) (refIdx l) (refMar l) hrow i, ha, hcol, refMar_at, EReal.coe_add]
    refine congrArg (fun t : EReal => ((Real.arccos r : ℝ) : EReal) + t) ?_
    have hi := (i 1).isLt
    change (i 1).val < 100000 at hi
    by_cases e : l (ValueIdx.ix1 (i 0)) = 4294967295#32
    · have hne : ¬((l (ValueIdx.ix1 (i 0))).toNat = (i 1).val) := by
        rw [e]; show ¬(4294967295 = (i 1).val); omega
      rw [if_pos e, if_pos e, if_neg hne, EReal.coe_zero, ite_self]
    · rw [if_neg e, if_neg e]
      by_cases q : (l (ValueIdx.ix1 (i 0))).toNat = (i 1).val
      · rw [if_pos q, if_pos (by exact_mod_cast q)]
      · rw [if_neg q, if_neg (fun w => q (by exact_mod_cast w)), EReal.coe_zero]
  show ((x i : EReal) + (Ideal.cos (Host.scatterAdd scatter_S1024x100000_S1024x2_S1024_n_01_01_1 (Host.acos x) (refIdx l) (refMar l) i) - (x i : EReal)))
      * Ideal.ofBits .f32 0x42800000#32 = (fixed (F := Ideal) x l i : EReal) * Ideal.ofBits .f32 0x42800000#32
  refine congrArg (fun t : EReal => t * Ideal.ofBits .f32 0x42800000#32) ?_
  rw [hang, hr, Ideal.cos_coe, add_diff, fixed, hlab, hr]
  by_cases q : (l (ValueIdx.ix1 (i 0))).toNat = (i 1).val
  · rw [if_pos q, if_pos q, fv_real hr1]
  · rw [if_neg q, if_neg q, add_zero, Real.cos_arccos hr1.1 hr1.2]

/-! ## The claims under the precondition -/

theorem frame_ideal_cosines : Cert.quiescent_KernelIdeal_pre_cosines (hPre_cosines := facts_cosines) := fun m ρ _ => frame_ideal m ρ trivial

theorem frame_ref_cosines : Cert.quiescent_ReferenceIdeal_pre_cosines (hPre_cosines := facts_cosines) := fun m ρ _ => frame_ref m ρ trivial

/-- Over the reals the two programs' results are the same. -/
theorem algebraic : Cert.algebraic_KernelIdeal_ReferenceIdeal_pre_cosines (hPre_cosines := facts_cosines) := by
  intro m ρ m' ρ' hpre hagree
  have hp := fun c => of_cosines (hF := facts_cosines) _ _ _ (hpre c)
  refine ⟨fun c => res m c, ?_, ?_⟩
  · exact (θ_run Cert.KernelIdeal.defs _ _).mono (fun _ h c => ⟨(h.1 c).2.2.2, (h.1 c).1, (h.1 c).2.1, (h.1 c).2.2.1⟩) (run_main (F := Ideal) m ρ)
  · refine (θ_run Cert.ReferenceIdeal.defs _ _).mono (fun _ h c => ⟨(h c).1.trans ?_, (h c).2⟩) (Cert.ReferenceIdeal.Value.run (F := Ideal) m' ρ')
    rw [(hagree c).1, (hagree c).2.1]
    exact same_value _ _ (hp c).1 (hp c).2

end Cert.Proof.Arc

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

/-- Every claim of this certificate. -/
theorem claim : Cert.Claim :=
  ⟨Cert.Kernel.Gen.facts, Cert.KernelIdeal.Gen.facts, Cert.ReferenceIdeal.Gen.facts, Arc.facts_cosines, Arc.frame_kernel, Arc.frame_ideal,
    Arc.frame_ideal_cosines, Arc.frame_ref, Arc.frame_ref_cosines, Arc.named, Arc.algebraic⟩

end Cert.Proof

end
